-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 64]⟩ ⟨2, ![2048, 2048]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 2048]⟩ ⟨2, ![2048, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x64 : Shape := ⟨2, ![2048, 64]⟩
abbrev S2048x2048 : Shape := ⟨2, ![2048, 2048]⟩
abbrev S64x2048 : Shape := ⟨2, ![64, 2048]⟩
abbrev S32x64x64 : Shape := ⟨3, ![32, 64, 64]⟩
abbrev S32 : Shape := ⟨1, ![32]⟩
abbrev S4 : Shape := ⟨1, ![4]⟩
abbrev S_ : Shape := ⟨0, ![]⟩
abbrev S1 : Shape := ⟨1, ![1]⟩
abbrev S1x64x64 : Shape := ⟨3, ![1, 64, 64]⟩
abbrev S64x64 : Shape := ⟨2, ![64, 64]⟩
abbrev S512x2048 : Shape := ⟨2, ![512, 2048]⟩
abbrev S64x512 : Shape := ⟨2, ![64, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x64, .f32⟩
  | .hbm, ⟨1, _⟩ => ⟨S2048x2048, .f32⟩
  | .hbm, ⟨2, _⟩ => ⟨S64x2048, .f32⟩
  | .local _ .vmem, ⟨0, _⟩ => ⟨S2048x64, .f32⟩
  | .local _ .vmem, ⟨1, _⟩ => ⟨S2048x64, .bf16⟩
  | .local _ .vmem, ⟨2, _⟩ => ⟨S32x64x64, .bf16⟩
  | .local _ .vmem, ⟨3, _⟩ => ⟨S64x2048, .bf16⟩
  | .local _ .vmem, ⟨4, _⟩ => ⟨S2048x2048, .f32⟩
  | .local _ .vmem, ⟨5, _⟩ => ⟨S64x2048, .f32⟩
  | .local _ .vmem, ⟨6, _⟩ => ⟨S64x2048, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => true
  | ⟨1, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 2 70 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_33 : BitVec 32 := 1#32
  let v66 : BitVec 32 := Scalar.muli v4 c1_i32_33
  let v67 : BitVec 32 := Scalar.addi c0_i32 v66
  v67.toNat
def k0_dev2 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v5 : BitVec 32 := Scalar.addi v2 c2_i32
  let c32_i32_2 : BitVec 32 := 32#32
  let v6 : BitVec 32 := Scalar.remsi v5 c32_i32_2
  let c1_i32_35 : BitVec 32 := 1#32
  let v68 : BitVec 32 := Scalar.muli v6 c1_i32_35
  let v69 : BitVec 32 := Scalar.addi c0_i32_36 v68
  v69.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v7 : BitVec 32 := Scalar.addi v2 c3_i32
  let c32_i32_3 : BitVec 32 := 32#32
  let v8 : BitVec 32 := Scalar.remsi v7 c32_i32_3
  let c1_i32_38 : BitVec 32 := 1#32
  let v70 : BitVec 32 := Scalar.muli v8 c1_i32_38
  let v71 : BitVec 32 := Scalar.addi c0_i32_39 v70
  v71.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v9 : BitVec 32 := Scalar.addi v2 c4_i32
  let c32_i32_4 : BitVec 32 := 32#32
  let v10 : BitVec 32 := Scalar.remsi v9 c32_i32_4
  let c1_i32_41 : BitVec 32 := 1#32
  let v72 : BitVec 32 := Scalar.muli v10 c1_i32_41
  let v73 : BitVec 32 := Scalar.addi c0_i32_42 v72
  v73.toNat
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v11 : BitVec 32 := Scalar.addi v2 c5_i32
  let c32_i32_5 : BitVec 32 := 32#32
  let v12 : BitVec 32 := Scalar.remsi v11 c32_i32_5
  let c1_i32_44 : BitVec 32 := 1#32
  let v74 : BitVec 32 := Scalar.muli v12 c1_i32_44
  let v75 : BitVec 32 := Scalar.addi c0_i32_45 v74
  v75.toNat
def k0_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v13 : BitVec 32 := Scalar.addi v2 c6_i32
  let c32_i32_6 : BitVec 32 := 32#32
  let v14 : BitVec 32 := Scalar.remsi v13 c32_i32_6
  let c1_i32_47 : BitVec 32 := 1#32
  let v76 : BitVec 32 := Scalar.muli v14 c1_i32_47
  let v77 : BitVec 32 := Scalar.addi c0_i32_48 v76
  v77.toNat
def k0_dev7 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v15 : BitVec 32 := Scalar.addi v2 c7_i32
  let c32_i32_7 : BitVec 32 := 32#32
  let v16 : BitVec 32 := Scalar.remsi v15 c32_i32_7
  let c1_i32_50 : BitVec 32 := 1#32
  let v78 : BitVec 32 := Scalar.muli v16 c1_i32_50
  let v79 : BitVec 32 := Scalar.addi c0_i32_51 v78
  v79.toNat
def k0_dev8 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v17 : BitVec 32 := Scalar.addi v2 c8_i32
  let c32_i32_8 : BitVec 32 := 32#32
  let v18 : BitVec 32 := Scalar.remsi v17 c32_i32_8
  let c1_i32_53 : BitVec 32 := 1#32
  let v80 : BitVec 32 := Scalar.muli v18 c1_i32_53
  let v81 : BitVec 32 := Scalar.addi c0_i32_54 v80
  v81.toNat
def k0_dev9 (d0 : Dev nD) : Nat :=
  let c0_i32_57 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v19 : BitVec 32 := Scalar.addi v2 c9_i32
  let c32_i32_9 : BitVec 32 := 32#32
  let v20 : BitVec 32 := Scalar.remsi v19 c32_i32_9
  let c1_i32_56 : BitVec 32 := 1#32
  let v82 : BitVec 32 := Scalar.muli v20 c1_i32_56
  let v83 : BitVec 32 := Scalar.addi c0_i32_57 v82
  v83.toNat
def k0_dev10 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v21 : BitVec 32 := Scalar.addi v2 c10_i32
  let c32_i32_10 : BitVec 32 := 32#32
  let v22 : BitVec 32 := Scalar.remsi v21 c32_i32_10
  let c1_i32_59 : BitVec 32 := 1#32
  let v84 : BitVec 32 := Scalar.muli v22 c1_i32_59
  let v85 : BitVec 32 := Scalar.addi c0_i32_60 v84
  v85.toNat
def k0_dev11 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v23 : BitVec 32 := Scalar.addi v2 c11_i32
  let c32_i32_11 : BitVec 32 := 32#32
  let v24 : BitVec 32 := Scalar.remsi v23 c32_i32_11
  let c1_i32_62 : BitVec 32 := 1#32
  let v86 : BitVec 32 := Scalar.muli v24 c1_i32_62
  let v87 : BitVec 32 := Scalar.addi c0_i32_63 v86
  v87.toNat
def k0_dev12 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v25 : BitVec 32 := Scalar.addi v2 c12_i32
  let c32_i32_12 : BitVec 32 := 32#32
  let v26 : BitVec 32 := Scalar.remsi v25 c32_i32_12
  let c1_i32_65 : BitVec 32 := 1#32
  let v88 : BitVec 32 := Scalar.muli v26 c1_i32_65
  let v89 : BitVec 32 := Scalar.addi c0_i32_66 v88
  v89.toNat
def k0_dev13 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v27 : BitVec 32 := Scalar.addi v2 c13_i32
  let c32_i32_13 : BitVec 32 := 32#32
  let v28 : BitVec 32 := Scalar.remsi v27 c32_i32_13
  let c1_i32_68 : BitVec 32 := 1#32
  let v90 : BitVec 32 := Scalar.muli v28 c1_i32_68
  let v91 : BitVec 32 := Scalar.addi c0_i32_69 v90
  v91.toNat
def k0_dev14 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v29 : BitVec 32 := Scalar.addi v2 c14_i32
  let c32_i32_14 : BitVec 32 := 32#32
  let v30 : BitVec 32 := Scalar.remsi v29 c32_i32_14
  let c1_i32_71 : BitVec 32 := 1#32
  let v92 : BitVec 32 := Scalar.muli v30 c1_i32_71
  let v93 : BitVec 32 := Scalar.addi c0_i32_72 v92
  v93.toNat
def k0_dev15 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v31 : BitVec 32 := Scalar.addi v2 c15_i32
  let c32_i32_15 : BitVec 32 := 32#32
  let v32 : BitVec 32 := Scalar.remsi v31 c32_i32_15
  let c1_i32_74 : BitVec 32 := 1#32
  let v94 : BitVec 32 := Scalar.muli v32 c1_i32_74
  let v95 : BitVec 32 := Scalar.addi c0_i32_75 v94
  v95.toNat
def k0_dev16 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v33 : BitVec 32 := Scalar.addi v2 c16_i32
  let c32_i32_16 : BitVec 32 := 32#32
  let v34 : BitVec 32 := Scalar.remsi v33 c32_i32_16
  let c1_i32_77 : BitVec 32 := 1#32
  let v96 : BitVec 32 := Scalar.muli v34 c1_i32_77
  let v97 : BitVec 32 := Scalar.addi c0_i32_78 v96
  v97.toNat
def k0_dev17 (d0 : Dev nD) : Nat :=
  let c0_i32_81 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v35 : BitVec 32 := Scalar.addi v2 c17_i32
  let c32_i32_17 : BitVec 32 := 32#32
  let v36 : BitVec 32 := Scalar.remsi v35 c32_i32_17
  let c1_i32_80 : BitVec 32 := 1#32
  let v98 : BitVec 32 := Scalar.muli v36 c1_i32_80
  let v99 : BitVec 32 := Scalar.addi c0_i32_81 v98
  v99.toNat
def k0_dev18 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v37 : BitVec 32 := Scalar.addi v2 c18_i32
  let c32_i32_18 : BitVec 32 := 32#32
  let v38 : BitVec 32 := Scalar.remsi v37 c32_i32_18
  let c1_i32_83 : BitVec 32 := 1#32
  let v100 : BitVec 32 := Scalar.muli v38 c1_i32_83
  let v101 : BitVec 32 := Scalar.addi c0_i32_84 v100
  v101.toNat
def k0_dev19 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v39 : BitVec 32 := Scalar.addi v2 c19_i32
  let c32_i32_19 : BitVec 32 := 32#32
  let v40 : BitVec 32 := Scalar.remsi v39 c32_i32_19
  let c1_i32_86 : BitVec 32 := 1#32
  let v102 : BitVec 32 := Scalar.muli v40 c1_i32_86
  let v103 : BitVec 32 := Scalar.addi c0_i32_87 v102
  v103.toNat
def k0_dev20 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v41 : BitVec 32 := Scalar.addi v2 c20_i32
  let c32_i32_20 : BitVec 32 := 32#32
  let v42 : BitVec 32 := Scalar.remsi v41 c32_i32_20
  let c1_i32_89 : BitVec 32 := 1#32
  let v104 : BitVec 32 := Scalar.muli v42 c1_i32_89
  let v105 : BitVec 32 := Scalar.addi c0_i32_90 v104
  v105.toNat
def k0_dev21 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v43 : BitVec 32 := Scalar.addi v2 c21_i32
  let c32_i32_21 : BitVec 32 := 32#32
  let v44 : BitVec 32 := Scalar.remsi v43 c32_i32_21
  let c1_i32_92 : BitVec 32 := 1#32
  let v106 : BitVec 32 := Scalar.muli v44 c1_i32_92
  let v107 : BitVec 32 := Scalar.addi c0_i32_93 v106
  v107.toNat
def k0_dev22 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v45 : BitVec 32 := Scalar.addi v2 c22_i32
  let c32_i32_22 : BitVec 32 := 32#32
  let v46 : BitVec 32 := Scalar.remsi v45 c32_i32_22
  let c1_i32_95 : BitVec 32 := 1#32
  let v108 : BitVec 32 := Scalar.muli v46 c1_i32_95
  let v109 : BitVec 32 := Scalar.addi c0_i32_96 v108
  v109.toNat
def k0_dev23 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v47 : BitVec 32 := Scalar.addi v2 c23_i32
  let c32_i32_23 : BitVec 32 := 32#32
  let v48 : BitVec 32 := Scalar.remsi v47 c32_i32_23
  let c1_i32_98 : BitVec 32 := 1#32
  let v110 : BitVec 32 := Scalar.muli v48 c1_i32_98
  let v111 : BitVec 32 := Scalar.addi c0_i32_99 v110
  v111.toNat
def k0_dev24 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v49 : BitVec 32 := Scalar.addi v2 c24_i32
  let c32_i32_24 : BitVec 32 := 32#32
  let v50 : BitVec 32 := Scalar.remsi v49 c32_i32_24
  let c1_i32_101 : BitVec 32 := 1#32
  let v112 : BitVec 32 := Scalar.muli v50 c1_i32_101
  let v113 : BitVec 32 := Scalar.addi c0_i32_102 v112
  v113.toNat
def k0_dev25 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v51 : BitVec 32 := Scalar.addi v2 c25_i32
  let c32_i32_25 : BitVec 32 := 32#32
  let v52 : BitVec 32 := Scalar.remsi v51 c32_i32_25
  let c1_i32_104 : BitVec 32 := 1#32
  let v114 : BitVec 32 := Scalar.muli v52 c1_i32_104
  let v115 : BitVec 32 := Scalar.addi c0_i32_105 v114
  v115.toNat
def k0_dev26 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v53 : BitVec 32 := Scalar.addi v2 c26_i32
  let c32_i32_26 : BitVec 32 := 32#32
  let v54 : BitVec 32 := Scalar.remsi v53 c32_i32_26
  let c1_i32_107 : BitVec 32 := 1#32
  let v116 : BitVec 32 := Scalar.muli v54 c1_i32_107
  let v117 : BitVec 32 := Scalar.addi c0_i32_108 v116
  v117.toNat
def k0_dev27 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v55 : BitVec 32 := Scalar.addi v2 c27_i32
  let c32_i32_27 : BitVec 32 := 32#32
  let v56 : BitVec 32 := Scalar.remsi v55 c32_i32_27
  let c1_i32_110 : BitVec 32 := 1#32
  let v118 : BitVec 32 := Scalar.muli v56 c1_i32_110
  let v119 : BitVec 32 := Scalar.addi c0_i32_111 v118
  v119.toNat
def k0_dev28 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v57 : BitVec 32 := Scalar.addi v2 c28_i32
  let c32_i32_28 : BitVec 32 := 32#32
  let v58 : BitVec 32 := Scalar.remsi v57 c32_i32_28
  let c1_i32_113 : BitVec 32 := 1#32
  let v120 : BitVec 32 := Scalar.muli v58 c1_i32_113
  let v121 : BitVec 32 := Scalar.addi c0_i32_114 v120
  v121.toNat
def k0_dev29 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v59 : BitVec 32 := Scalar.addi v2 c29_i32
  let c32_i32_29 : BitVec 32 := 32#32
  let v60 : BitVec 32 := Scalar.remsi v59 c32_i32_29
  let c1_i32_116 : BitVec 32 := 1#32
  let v122 : BitVec 32 := Scalar.muli v60 c1_i32_116
  let v123 : BitVec 32 := Scalar.addi c0_i32_117 v122
  v123.toNat
def k0_dev30 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v61 : BitVec 32 := Scalar.addi v2 c30_i32
  let c32_i32_30 : BitVec 32 := 32#32
  let v62 : BitVec 32 := Scalar.remsi v61 c32_i32_30
  let c1_i32_119 : BitVec 32 := 1#32
  let v124 : BitVec 32 := Scalar.muli v62 c1_i32_119
  let v125 : BitVec 32 := Scalar.addi c0_i32_120 v124
  v125.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v63 : BitVec 32 := Scalar.addi v2 c31_i32
  let c32_i32_31 : BitVec 32 := 32#32
  let v64 : BitVec 32 := Scalar.remsi v63 c32_i32_31
  let c1_i32_122 : BitVec 32 := 1#32
  let v126 : BitVec 32 := Scalar.muli v64 c1_i32_122
  let v127 : BitVec 32 := Scalar.addi c0_i32_123 v126
  v127.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_133 : BitVec 32 := 0#32
  let c0_i32_134 : BitVec 32 := 0#32
  ![v2.toNat, 0, 0]
def k0_off3 (d0 : Dev nD) (c0_i32_128 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v134 : BitVec 32 := Scalar.addi v2 c0_i32_128
  let c32_i32_129 : BitVec 32 := 32#32
  let v135 : BitVec 32 := Scalar.remsi v134 c32_i32_129
  let c64_i32 : BitVec 32 := 64#32
  let v136 : BitVec 32 := Scalar.muli v135 c64_i32
  let c0_i32_135 : BitVec 32 := 0#32
  ![v136.toNat, 0]
def k0_dev32 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_128 : BitVec 32 := 0#32
  let v134 : BitVec 32 := Scalar.addi v2 c0_i32_128
  let c32_i32_129 : BitVec 32 := 32#32
  let v135 : BitVec 32 := Scalar.remsi v134 c32_i32_129
  let c1_i32_131 : BitVec 32 := 1#32
  let v137 : BitVec 32 := Scalar.muli v135 c1_i32_131
  let v138 : BitVec 32 := Scalar.addi c0_i32_132 v137
  v138.toNat
def k0_dev33 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_136 : BitVec 32 := 1#32
  let v146 : BitVec 32 := Scalar.addi v2 c1_i32_136
  let c32_i32_137 : BitVec 32 := 32#32
  let v147 : BitVec 32 := Scalar.remsi v146 c32_i32_137
  let c1_i32_140 : BitVec 32 := 1#32
  let v149 : BitVec 32 := Scalar.muli v147 c1_i32_140
  let v150 : BitVec 32 := Scalar.addi c0_i32_141 v149
  v150.toNat
def k0_dev34 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_145 : BitVec 32 := 2#32
  let v158 : BitVec 32 := Scalar.addi v2 c2_i32_145
  let c32_i32_146 : BitVec 32 := 32#32
  let v159 : BitVec 32 := Scalar.remsi v158 c32_i32_146
  let c1_i32_149 : BitVec 32 := 1#32
  let v161 : BitVec 32 := Scalar.muli v159 c1_i32_149
  let v162 : BitVec 32 := Scalar.addi c0_i32_150 v161
  v162.toNat
def k0_dev35 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_154 : BitVec 32 := 3#32
  let v170 : BitVec 32 := Scalar.addi v2 c3_i32_154
  let c32_i32_155 : BitVec 32 := 32#32
  let v171 : BitVec 32 := Scalar.remsi v170 c32_i32_155
  let c1_i32_158 : BitVec 32 := 1#32
  let v173 : BitVec 32 := Scalar.muli v171 c1_i32_158
  let v174 : BitVec 32 := Scalar.addi c0_i32_159 v173
  v174.toNat
def k0_dev36 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_163 : BitVec 32 := 4#32
  let v182 : BitVec 32 := Scalar.addi v2 c4_i32_163
  let c32_i32_164 : BitVec 32 := 32#32
  let v183 : BitVec 32 := Scalar.remsi v182 c32_i32_164
  let c1_i32_167 : BitVec 32 := 1#32
  let v185 : BitVec 32 := Scalar.muli v183 c1_i32_167
  let v186 : BitVec 32 := Scalar.addi c0_i32_168 v185
  v186.toNat
def k0_dev37 (d0 : Dev nD) : Nat :=
  let c0_i32_177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_172 : BitVec 32 := 5#32
  let v194 : BitVec 32 := Scalar.addi v2 c5_i32_172
  let c32_i32_173 : BitVec 32 := 32#32
  let v195 : BitVec 32 := Scalar.remsi v194 c32_i32_173
  let c1_i32_176 : BitVec 32 := 1#32
  let v197 : BitVec 32 := Scalar.muli v195 c1_i32_176
  let v198 : BitVec 32 := Scalar.addi c0_i32_177 v197
  v198.toNat
def k0_dev38 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_181 : BitVec 32 := 6#32
  let v206 : BitVec 32 := Scalar.addi v2 c6_i32_181
  let c32_i32_182 : BitVec 32 := 32#32
  let v207 : BitVec 32 := Scalar.remsi v206 c32_i32_182
  let c1_i32_185 : BitVec 32 := 1#32
  let v209 : BitVec 32 := Scalar.muli v207 c1_i32_185
  let v210 : BitVec 32 := Scalar.addi c0_i32_186 v209
  v210.toNat
def k0_dev39 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_190 : BitVec 32 := 7#32
  let v218 : BitVec 32 := Scalar.addi v2 c7_i32_190
  let c32_i32_191 : BitVec 32 := 32#32
  let v219 : BitVec 32 := Scalar.remsi v218 c32_i32_191
  let c1_i32_194 : BitVec 32 := 1#32
  let v221 : BitVec 32 := Scalar.muli v219 c1_i32_194
  let v222 : BitVec 32 := Scalar.addi c0_i32_195 v221
  v222.toNat
def k0_dev40 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_199 : BitVec 32 := 8#32
  let v230 : BitVec 32 := Scalar.addi v2 c8_i32_199
  let c32_i32_200 : BitVec 32 := 32#32
  let v231 : BitVec 32 := Scalar.remsi v230 c32_i32_200
  let c1_i32_203 : BitVec 32 := 1#32
  let v233 : BitVec 32 := Scalar.muli v231 c1_i32_203
  let v234 : BitVec 32 := Scalar.addi c0_i32_204 v233
  v234.toNat
def k0_dev41 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_208 : BitVec 32 := 9#32
  let v242 : BitVec 32 := Scalar.addi v2 c9_i32_208
  let c32_i32_209 : BitVec 32 := 32#32
  let v243 : BitVec 32 := Scalar.remsi v242 c32_i32_209
  let c1_i32_212 : BitVec 32 := 1#32
  let v245 : BitVec 32 := Scalar.muli v243 c1_i32_212
  let v246 : BitVec 32 := Scalar.addi c0_i32_213 v245
  v246.toNat
def k0_dev42 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_217 : BitVec 32 := 10#32
  let v254 : BitVec 32 := Scalar.addi v2 c10_i32_217
  let c32_i32_218 : BitVec 32 := 32#32
  let v255 : BitVec 32 := Scalar.remsi v254 c32_i32_218
  let c1_i32_221 : BitVec 32 := 1#32
  let v257 : BitVec 32 := Scalar.muli v255 c1_i32_221
  let v258 : BitVec 32 := Scalar.addi c0_i32_222 v257
  v258.toNat
def k0_dev43 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_226 : BitVec 32 := 11#32
  let v266 : BitVec 32 := Scalar.addi v2 c11_i32_226
  let c32_i32_227 : BitVec 32 := 32#32
  let v267 : BitVec 32 := Scalar.remsi v266 c32_i32_227
  let c1_i32_230 : BitVec 32 := 1#32
  let v269 : BitVec 32 := Scalar.muli v267 c1_i32_230
  let v270 : BitVec 32 := Scalar.addi c0_i32_231 v269
  v270.toNat
def k0_dev44 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_235 : BitVec 32 := 12#32
  let v278 : BitVec 32 := Scalar.addi v2 c12_i32_235
  let c32_i32_236 : BitVec 32 := 32#32
  let v279 : BitVec 32 := Scalar.remsi v278 c32_i32_236
  let c1_i32_239 : BitVec 32 := 1#32
  let v281 : BitVec 32 := Scalar.muli v279 c1_i32_239
  let v282 : BitVec 32 := Scalar.addi c0_i32_240 v281
  v282.toNat
def k0_dev45 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_244 : BitVec 32 := 13#32
  let v290 : BitVec 32 := Scalar.addi v2 c13_i32_244
  let c32_i32_245 : BitVec 32 := 32#32
  let v291 : BitVec 32 := Scalar.remsi v290 c32_i32_245
  let c1_i32_248 : BitVec 32 := 1#32
  let v293 : BitVec 32 := Scalar.muli v291 c1_i32_248
  let v294 : BitVec 32 := Scalar.addi c0_i32_249 v293
  v294.toNat
def k0_dev46 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_253 : BitVec 32 := 14#32
  let v302 : BitVec 32 := Scalar.addi v2 c14_i32_253
  let c32_i32_254 : BitVec 32 := 32#32
  let v303 : BitVec 32 := Scalar.remsi v302 c32_i32_254
  let c1_i32_257 : BitVec 32 := 1#32
  let v305 : BitVec 32 := Scalar.muli v303 c1_i32_257
  let v306 : BitVec 32 := Scalar.addi c0_i32_258 v305
  v306.toNat
def k0_dev47 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_262 : BitVec 32 := 15#32
  let v314 : BitVec 32 := Scalar.addi v2 c15_i32_262
  let c32_i32_263 : BitVec 32 := 32#32
  let v315 : BitVec 32 := Scalar.remsi v314 c32_i32_263
  let c1_i32_266 : BitVec 32 := 1#32
  let v317 : BitVec 32 := Scalar.muli v315 c1_i32_266
  let v318 : BitVec 32 := Scalar.addi c0_i32_267 v317
  v318.toNat
def k0_dev48 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_271 : BitVec 32 := 16#32
  let v326 : BitVec 32 := Scalar.addi v2 c16_i32_271
  let c32_i32_272 : BitVec 32 := 32#32
  let v327 : BitVec 32 := Scalar.remsi v326 c32_i32_272
  let c1_i32_275 : BitVec 32 := 1#32
  let v329 : BitVec 32 := Scalar.muli v327 c1_i32_275
  let v330 : BitVec 32 := Scalar.addi c0_i32_276 v329
  v330.toNat
def k0_dev49 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_280 : BitVec 32 := 17#32
  let v338 : BitVec 32 := Scalar.addi v2 c17_i32_280
  let c32_i32_281 : BitVec 32 := 32#32
  let v339 : BitVec 32 := Scalar.remsi v338 c32_i32_281
  let c1_i32_284 : BitVec 32 := 1#32
  let v341 : BitVec 32 := Scalar.muli v339 c1_i32_284
  let v342 : BitVec 32 := Scalar.addi c0_i32_285 v341
  v342.toNat
def k0_dev50 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_289 : BitVec 32 := 18#32
  let v350 : BitVec 32 := Scalar.addi v2 c18_i32_289
  let c32_i32_290 : BitVec 32 := 32#32
  let v351 : BitVec 32 := Scalar.remsi v350 c32_i32_290
  let c1_i32_293 : BitVec 32 := 1#32
  let v353 : BitVec 32 := Scalar.muli v351 c1_i32_293
  let v354 : BitVec 32 := Scalar.addi c0_i32_294 v353
  v354.toNat
def k0_dev51 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_298 : BitVec 32 := 19#32
  let v362 : BitVec 32 := Scalar.addi v2 c19_i32_298
  let c32_i32_299 : BitVec 32 := 32#32
  let v363 : BitVec 32 := Scalar.remsi v362 c32_i32_299
  let c1_i32_302 : BitVec 32 := 1#32
  let v365 : BitVec 32 := Scalar.muli v363 c1_i32_302
  let v366 : BitVec 32 := Scalar.addi c0_i32_303 v365
  v366.toNat
def k0_dev52 (d0 : Dev nD) : Nat :=
  let c0_i32_312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_307 : BitVec 32 := 20#32
  let v374 : BitVec 32 := Scalar.addi v2 c20_i32_307
  let c32_i32_308 : BitVec 32 := 32#32
  let v375 : BitVec 32 := Scalar.remsi v374 c32_i32_308
  let c1_i32_311 : BitVec 32 := 1#32
  let v377 : BitVec 32 := Scalar.muli v375 c1_i32_311
  let v378 : BitVec 32 := Scalar.addi c0_i32_312 v377
  v378.toNat
def k0_dev53 (d0 : Dev nD) : Nat :=
  let c0_i32_321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_316 : BitVec 32 := 21#32
  let v386 : BitVec 32 := Scalar.addi v2 c21_i32_316
  let c32_i32_317 : BitVec 32 := 32#32
  let v387 : BitVec 32 := Scalar.remsi v386 c32_i32_317
  let c1_i32_320 : BitVec 32 := 1#32
  let v389 : BitVec 32 := Scalar.muli v387 c1_i32_320
  let v390 : BitVec 32 := Scalar.addi c0_i32_321 v389
  v390.toNat
def k0_dev54 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_325 : BitVec 32 := 22#32
  let v398 : BitVec 32 := Scalar.addi v2 c22_i32_325
  let c32_i32_326 : BitVec 32 := 32#32
  let v399 : BitVec 32 := Scalar.remsi v398 c32_i32_326
  let c1_i32_329 : BitVec 32 := 1#32
  let v401 : BitVec 32 := Scalar.muli v399 c1_i32_329
  let v402 : BitVec 32 := Scalar.addi c0_i32_330 v401
  v402.toNat
def k0_dev55 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_334 : BitVec 32 := 23#32
  let v410 : BitVec 32 := Scalar.addi v2 c23_i32_334
  let c32_i32_335 : BitVec 32 := 32#32
  let v411 : BitVec 32 := Scalar.remsi v410 c32_i32_335
  let c1_i32_338 : BitVec 32 := 1#32
  let v413 : BitVec 32 := Scalar.muli v411 c1_i32_338
  let v414 : BitVec 32 := Scalar.addi c0_i32_339 v413
  v414.toNat
def k0_dev56 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_343 : BitVec 32 := 24#32
  let v422 : BitVec 32 := Scalar.addi v2 c24_i32_343
  let c32_i32_344 : BitVec 32 := 32#32
  let v423 : BitVec 32 := Scalar.remsi v422 c32_i32_344
  let c1_i32_347 : BitVec 32 := 1#32
  let v425 : BitVec 32 := Scalar.muli v423 c1_i32_347
  let v426 : BitVec 32 := Scalar.addi c0_i32_348 v425
  v426.toNat
def k0_dev57 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_352 : BitVec 32 := 25#32
  let v434 : BitVec 32 := Scalar.addi v2 c25_i32_352
  let c32_i32_353 : BitVec 32 := 32#32
  let v435 : BitVec 32 := Scalar.remsi v434 c32_i32_353
  let c1_i32_356 : BitVec 32 := 1#32
  let v437 : BitVec 32 := Scalar.muli v435 c1_i32_356
  let v438 : BitVec 32 := Scalar.addi c0_i32_357 v437
  v438.toNat
def k0_dev58 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_361 : BitVec 32 := 26#32
  let v446 : BitVec 32 := Scalar.addi v2 c26_i32_361
  let c32_i32_362 : BitVec 32 := 32#32
  let v447 : BitVec 32 := Scalar.remsi v446 c32_i32_362
  let c1_i32_365 : BitVec 32 := 1#32
  let v449 : BitVec 32 := Scalar.muli v447 c1_i32_365
  let v450 : BitVec 32 := Scalar.addi c0_i32_366 v449
  v450.toNat
def k0_dev59 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_370 : BitVec 32 := 27#32
  let v458 : BitVec 32 := Scalar.addi v2 c27_i32_370
  let c32_i32_371 : BitVec 32 := 32#32
  let v459 : BitVec 32 := Scalar.remsi v458 c32_i32_371
  let c1_i32_374 : BitVec 32 := 1#32
  let v461 : BitVec 32 := Scalar.muli v459 c1_i32_374
  let v462 : BitVec 32 := Scalar.addi c0_i32_375 v461
  v462.toNat
def k0_dev60 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_379 : BitVec 32 := 28#32
  let v470 : BitVec 32 := Scalar.addi v2 c28_i32_379
  let c32_i32_380 : BitVec 32 := 32#32
  let v471 : BitVec 32 := Scalar.remsi v470 c32_i32_380
  let c1_i32_383 : BitVec 32 := 1#32
  let v473 : BitVec 32 := Scalar.muli v471 c1_i32_383
  let v474 : BitVec 32 := Scalar.addi c0_i32_384 v473
  v474.toNat
def k0_dev61 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_388 : BitVec 32 := 29#32
  let v482 : BitVec 32 := Scalar.addi v2 c29_i32_388
  let c32_i32_389 : BitVec 32 := 32#32
  let v483 : BitVec 32 := Scalar.remsi v482 c32_i32_389
  let c1_i32_392 : BitVec 32 := 1#32
  let v485 : BitVec 32 := Scalar.muli v483 c1_i32_392
  let v486 : BitVec 32 := Scalar.addi c0_i32_393 v485
  v486.toNat
def k0_dev62 (d0 : Dev nD) : Nat :=
  let c0_i32_402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_397 : BitVec 32 := 30#32
  let v494 : BitVec 32 := Scalar.addi v2 c30_i32_397
  let c32_i32_398 : BitVec 32 := 32#32
  let v495 : BitVec 32 := Scalar.remsi v494 c32_i32_398
  let c1_i32_401 : BitVec 32 := 1#32
  let v497 : BitVec 32 := Scalar.muli v495 c1_i32_401
  let v498 : BitVec 32 := Scalar.addi c0_i32_402 v497
  v498.toNat
def k0_dev63 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_406 : BitVec 32 := 31#32
  let v506 : BitVec 32 := Scalar.addi v2 c31_i32_406
  let c32_i32_407 : BitVec 32 := 32#32
  let v507 : BitVec 32 := Scalar.remsi v506 c32_i32_407
  let c1_i32_410 : BitVec 32 := 1#32
  let v509 : BitVec 32 := Scalar.muli v507 c1_i32_410
  let v510 : BitVec 32 := Scalar.addi c0_i32_411 v509
  v510.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_538 : BitVec 32 := 0#32
  let v630 : BitVec 1 := Scalar.cmpi .ne v2 c0_i32_538
  let v631 : BitVec 32 := Scalar.extui v630
  let c0_i32_539 : BitVec 32 := 0#32
  let v632 : BitVec 1 := Scalar.cmpi .ne v631 c0_i32_539
  v632

def k0_dev64 : Nat :=
  let c0_i32_1229 : BitVec 32 := 0#32
  let c0_i32_1227 : BitVec 32 := 0#32
  let c1_i32_1228 : BitVec 32 := 1#32
  let v1322 : BitVec 32 := Scalar.muli c0_i32_1227 c1_i32_1228
  let v1323 : BitVec 32 := Scalar.addi c0_i32_1229 v1322
  v1323.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_540 : BitVec 32 := 1#32
  let v633 : BitVec 1 := Scalar.cmpi .ne v2 c1_i32_540
  let v634 : BitVec 32 := Scalar.extui v633
  let c0_i32_541 : BitVec 32 := 0#32
  let v635 : BitVec 1 := Scalar.cmpi .ne v634 c0_i32_541
  v635

def k0_dev65 : Nat :=
  let c0_i32_1229 : BitVec 32 := 0#32
  let c1_i32_1227 : BitVec 32 := 1#32
  let c1_i32_1228 : BitVec 32 := 1#32
  let v1322 : BitVec 32 := Scalar.muli c1_i32_1227 c1_i32_1228
  let v1323 : BitVec 32 := Scalar.addi c0_i32_1229 v1322
  v1323.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_542 : BitVec 32 := 2#32
  let v636 : BitVec 1 := Scalar.cmpi .ne v2 c2_i32_542
  let v637 : BitVec 32 := Scalar.extui v636
  let c0_i32_543 : BitVec 32 := 0#32
  let v638 : BitVec 1 := Scalar.cmpi .ne v637 c0_i32_543
  v638

def k0_dev66 : Nat :=
  let c0_i32_1229 : BitVec 32 := 0#32
  let c2_i32_1227 : BitVec 32 := 2#32
  let c1_i32_1228 : BitVec 32 := 1#32
  let v1322 : BitVec 32 := Scalar.muli c2_i32_1227 c1_i32_1228
  let v1323 : BitVec 32 := Scalar.addi c0_i32_1229 v1322
  v1323.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_544 : BitVec 32 := 3#32
  let v639 : BitVec 1 := Scalar.cmpi .ne v2 c3_i32_544
  let v640 : BitVec 32 := Scalar.extui v639
  let c0_i32_545 : BitVec 32 := 0#32
  let v641 : BitVec 1 := Scalar.cmpi .ne v640 c0_i32_545
  v641

def k0_dev67 : Nat :=
  let c0_i32_1229 : BitVec 32 := 0#32
  let c3_i32_1227 : BitVec 32 := 3#32
  let c1_i32_1228 : BitVec 32 := 1#32
  let v1322 : BitVec 32 := Scalar.muli c3_i32_1227 c1_i32_1228
  let v1323 : BitVec 32 := Scalar.addi c0_i32_1229 v1322
  v1323.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_546 : BitVec 32 := 4#32
  let v642 : BitVec 1 := Scalar.cmpi .ne v2 c4_i32_546
  let v643 : BitVec 32 := Scalar.extui v642
  let c0_i32_547 : BitVec 32 := 0#32
  let v644 : BitVec 1 := Scalar.cmpi .ne v643 c0_i32_547
  v644

def k0_dev68 : Nat :=
  let c0_i32_1229 : BitVec 32 := 0#32
  let c4_i32_1227 : BitVec 32 := 4#32
  let c1_i32_1228 : BitVec 32 := 1#32
  let v1322 : BitVec 32 := Scalar.muli c4_i32_1227 c1_i32_1228
  let v1323 : BitVec 32 := Scalar.addi c0_i32_1229 v1322
  v1323.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_548 : BitVec 32 := 5#32
  let v645 : BitVec 1 := Scalar.cmpi .ne v2 c5_i32_548
  let v646 : BitVec 32 := Scalar.extui v645
  let c0_i32_549 : BitVec 32 := 0#32
  let v647 : BitVec 1 := Scalar.cmpi .ne v646 c0_i32_549
  v647

def k0_dev69 : Nat :=
  let c0_i32_1229 : BitVec 32 := 0#32
  let c5_i32_1227 : BitVec 32 := 5#32
  let c1_i32_1228 : BitVec 32 := 1#32
  let v1322 : BitVec 32 := Scalar.muli c5_i32_1227 c1_i32_1228
  let v1323 : BitVec 32 := Scalar.addi c0_i32_1229 v1322
  v1323.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_550 : BitVec 32 := 6#32
  let v648 : BitVec 1 := Scalar.cmpi .ne v2 c6_i32_550
  let v649 : BitVec 32 := Scalar.extui v648
  let c0_i32_551 : BitVec 32 := 0#32
  let v650 : BitVec 1 := Scalar.cmpi .ne v649 c0_i32_551
  v650

def k0_dev70 : Nat :=
  let c0_i32_1229 : BitVec 32 := 0#32
  let c6_i32_1227 : BitVec 32 := 6#32
  let c1_i32_1228 : BitVec 32 := 1#32
  let v1322 : BitVec 32 := Scalar.muli c6_i32_1227 c1_i32_1228
  let v1323 : BitVec 32 := Scalar.addi c0_i32_1229 v1322
  v1323.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_552 : BitVec 32 := 7#32
  let v651 : BitVec 1 := Scalar.cmpi .ne v2 c7_i32_552
  let v652 : BitVec 32 := Scalar.extui v651
  let c0_i32_553 : BitVec 32 := 0#32
  let v653 : BitVec 1 := Scalar.cmpi .ne v652 c0_i32_553
  v653

def k0_dev71 : Nat :=
  let c0_i32_1229 : BitVec 32 := 0#32
  let c7_i32_1227 : BitVec 32 := 7#32
  let c1_i32_1228 : BitVec 32 := 1#32
  let v1322 : BitVec 32 := Scalar.muli c7_i32_1227 c1_i32_1228
  let v1323 : BitVec 32 := Scalar.addi c0_i32_1229 v1322
  v1323.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_669 : BitVec 32 := 8#32
  let v761 : BitVec 1 := Scalar.cmpi .ne v2 c8_i32_669
  let v762 : BitVec 32 := Scalar.extui v761
  let c0_i32_670 : BitVec 32 := 0#32
  let v763 : BitVec 1 := Scalar.cmpi .ne v762 c0_i32_670
  v763

def k0_dev72 : Nat :=
  let c0_i32_1229 : BitVec 32 := 0#32
  let c8_i32_1227 : BitVec 32 := 8#32
  let c1_i32_1228 : BitVec 32 := 1#32
  let v1322 : BitVec 32 := Scalar.muli c8_i32_1227 c1_i32_1228
  let v1323 : BitVec 32 := Scalar.addi c0_i32_1229 v1322
  v1323.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_671 : BitVec 32 := 9#32
  let v764 : BitVec 1 := Scalar.cmpi .ne v2 c9_i32_671
  let v765 : BitVec 32 := Scalar.extui v764
  let c0_i32_672 : BitVec 32 := 0#32
  let v766 : BitVec 1 := Scalar.cmpi .ne v765 c0_i32_672
  v766

def k0_dev73 : Nat :=
  let c0_i32_1229 : BitVec 32 := 0#32
  let c9_i32_1227 : BitVec 32 := 9#32
  let c1_i32_1228 : BitVec 32 := 1#32
  let v1322 : BitVec 32 := Scalar.muli c9_i32_1227 c1_i32_1228
  let v1323 : BitVec 32 := Scalar.addi c0_i32_1229 v1322
  v1323.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_673 : BitVec 32 := 10#32
  let v767 : BitVec 1 := Scalar.cmpi .ne v2 c10_i32_673
  let v768 : BitVec 32 := Scalar.extui v767
  let c0_i32_674 : BitVec 32 := 0#32
  let v769 : BitVec 1 := Scalar.cmpi .ne v768 c0_i32_674
  v769

def k0_dev74 : Nat :=
  let c0_i32_1229 : BitVec 32 := 0#32
  let c10_i32_1227 : BitVec 32 := 10#32
  let c1_i32_1228 : BitVec 32 := 1#32
  let v1322 : BitVec 32 := Scalar.muli c10_i32_1227 c1_i32_1228
  let v1323 : BitVec 32 := Scalar.addi c0_i32_1229 v1322
  v1323.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_675 : BitVec 32 := 11#32
  let v770 : BitVec 1 := Scalar.cmpi .ne v2 c11_i32_675
  let v771 : BitVec 32 := Scalar.extui v770
  let c0_i32_676 : BitVec 32 := 0#32
  let v772 : BitVec 1 := Scalar.cmpi .ne v771 c0_i32_676
  v772

def k0_dev75 : Nat :=
  let c0_i32_1229 : BitVec 32 := 0#32
  let c11_i32_1227 : BitVec 32 := 11#32
  let c1_i32_1228 : BitVec 32 := 1#32
  let v1322 : BitVec 32 := Scalar.muli c11_i32_1227 c1_i32_1228
  let v1323 : BitVec 32 := Scalar.addi c0_i32_1229 v1322
  v1323.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_677 : BitVec 32 := 12#32
  let v773 : BitVec 1 := Scalar.cmpi .ne v2 c12_i32_677
  let v774 : BitVec 32 := Scalar.extui v773
  let c0_i32_678 : BitVec 32 := 0#32
  let v775 : BitVec 1 := Scalar.cmpi .ne v774 c0_i32_678
  v775

def k0_dev76 : Nat :=
  let c0_i32_1229 : BitVec 32 := 0#32
  let c12_i32_1227 : BitVec 32 := 12#32
  let c1_i32_1228 : BitVec 32 := 1#32
  let v1322 : BitVec 32 := Scalar.muli c12_i32_1227 c1_i32_1228
  let v1323 : BitVec 32 := Scalar.addi c0_i32_1229 v1322
  v1323.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_679 : BitVec 32 := 13#32
  let v776 : BitVec 1 := Scalar.cmpi .ne v2 c13_i32_679
  let v777 : BitVec 32 := Scalar.extui v776
  let c0_i32_680 : BitVec 32 := 0#32
  let v778 : BitVec 1 := Scalar.cmpi .ne v777 c0_i32_680
  v778

def k0_dev77 : Nat :=
  let c0_i32_1229 : BitVec 32 := 0#32
  let c13_i32_1227 : BitVec 32 := 13#32
  let c1_i32_1228 : BitVec 32 := 1#32
  let v1322 : BitVec 32 := Scalar.muli c13_i32_1227 c1_i32_1228
  let v1323 : BitVec 32 := Scalar.addi c0_i32_1229 v1322
  v1323.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_681 : BitVec 32 := 14#32
  let v779 : BitVec 1 := Scalar.cmpi .ne v2 c14_i32_681
  let v780 : BitVec 32 := Scalar.extui v779
  let c0_i32_682 : BitVec 32 := 0#32
  let v781 : BitVec 1 := Scalar.cmpi .ne v780 c0_i32_682
  v781

def k0_dev78 : Nat :=
  let c0_i32_1229 : BitVec 32 := 0#32
  let c14_i32_1227 : BitVec 32 := 14#32
  let c1_i32_1228 : BitVec 32 := 1#32
  let v1322 : BitVec 32 := Scalar.muli c14_i32_1227 c1_i32_1228
  let v1323 : BitVec 32 := Scalar.addi c0_i32_1229 v1322
  v1323.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_683 : BitVec 32 := 15#32
  let v782 : BitVec 1 := Scalar.cmpi .ne v2 c15_i32_683
  let v783 : BitVec 32 := Scalar.extui v782
  let c0_i32_684 : BitVec 32 := 0#32
  let v784 : BitVec 1 := Scalar.cmpi .ne v783 c0_i32_684
  v784

def k0_dev79 : Nat :=
  let c0_i32_1229 : BitVec 32 := 0#32
  let c15_i32_1227 : BitVec 32 := 15#32
  let c1_i32_1228 : BitVec 32 := 1#32
  let v1322 : BitVec 32 := Scalar.muli c15_i32_1227 c1_i32_1228
  let v1323 : BitVec 32 := Scalar.addi c0_i32_1229 v1322
  v1323.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_803 : BitVec 32 := 16#32
  let v894 : BitVec 1 := Scalar.cmpi .ne v2 c16_i32_803
  let v895 : BitVec 32 := Scalar.extui v894
  let c0_i32_804 : BitVec 32 := 0#32
  let v896 : BitVec 1 := Scalar.cmpi .ne v895 c0_i32_804
  v896

def k0_dev80 : Nat :=
  let c0_i32_1229 : BitVec 32 := 0#32
  let c16_i32_1227 : BitVec 32 := 16#32
  let c1_i32_1228 : BitVec 32 := 1#32
  let v1322 : BitVec 32 := Scalar.muli c16_i32_1227 c1_i32_1228
  let v1323 : BitVec 32 := Scalar.addi c0_i32_1229 v1322
  v1323.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_805 : BitVec 32 := 17#32
  let v897 : BitVec 1 := Scalar.cmpi .ne v2 c17_i32_805
  let v898 : BitVec 32 := Scalar.extui v897
  let c0_i32_806 : BitVec 32 := 0#32
  let v899 : BitVec 1 := Scalar.cmpi .ne v898 c0_i32_806
  v899

def k0_dev81 : Nat :=
  let c0_i32_1229 : BitVec 32 := 0#32
  let c17_i32_1227 : BitVec 32 := 17#32
  let c1_i32_1228 : BitVec 32 := 1#32
  let v1322 : BitVec 32 := Scalar.muli c17_i32_1227 c1_i32_1228
  let v1323 : BitVec 32 := Scalar.addi c0_i32_1229 v1322
  v1323.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_807 : BitVec 32 := 18#32
  let v900 : BitVec 1 := Scalar.cmpi .ne v2 c18_i32_807
  let v901 : BitVec 32 := Scalar.extui v900
  let c0_i32_808 : BitVec 32 := 0#32
  let v902 : BitVec 1 := Scalar.cmpi .ne v901 c0_i32_808
  v902

def k0_dev82 : Nat :=
  let c0_i32_1229 : BitVec 32 := 0#32
  let c18_i32_1227 : BitVec 32 := 18#32
  let c1_i32_1228 : BitVec 32 := 1#32
  let v1322 : BitVec 32 := Scalar.muli c18_i32_1227 c1_i32_1228
  let v1323 : BitVec 32 := Scalar.addi c0_i32_1229 v1322
  v1323.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_809 : BitVec 32 := 19#32
  let v903 : BitVec 1 := Scalar.cmpi .ne v2 c19_i32_809
  let v904 : BitVec 32 := Scalar.extui v903
  let c0_i32_810 : BitVec 32 := 0#32
  let v905 : BitVec 1 := Scalar.cmpi .ne v904 c0_i32_810
  v905

def k0_dev83 : Nat :=
  let c0_i32_1229 : BitVec 32 := 0#32
  let c19_i32_1227 : BitVec 32 := 19#32
  let c1_i32_1228 : BitVec 32 := 1#32
  let v1322 : BitVec 32 := Scalar.muli c19_i32_1227 c1_i32_1228
  let v1323 : BitVec 32 := Scalar.addi c0_i32_1229 v1322
  v1323.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_811 : BitVec 32 := 20#32
  let v906 : BitVec 1 := Scalar.cmpi .ne v2 c20_i32_811
  let v907 : BitVec 32 := Scalar.extui v906
  let c0_i32_812 : BitVec 32 := 0#32
  let v908 : BitVec 1 := Scalar.cmpi .ne v907 c0_i32_812
  v908

def k0_dev84 : Nat :=
  let c0_i32_1229 : BitVec 32 := 0#32
  let c20_i32_1227 : BitVec 32 := 20#32
  let c1_i32_1228 : BitVec 32 := 1#32
  let v1322 : BitVec 32 := Scalar.muli c20_i32_1227 c1_i32_1228
  let v1323 : BitVec 32 := Scalar.addi c0_i32_1229 v1322
  v1323.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_813 : BitVec 32 := 21#32
  let v909 : BitVec 1 := Scalar.cmpi .ne v2 c21_i32_813
  let v910 : BitVec 32 := Scalar.extui v909
  let c0_i32_814 : BitVec 32 := 0#32
  let v911 : BitVec 1 := Scalar.cmpi .ne v910 c0_i32_814
  v911

def k0_dev85 : Nat :=
  let c0_i32_1229 : BitVec 32 := 0#32
  let c21_i32_1227 : BitVec 32 := 21#32
  let c1_i32_1228 : BitVec 32 := 1#32
  let v1322 : BitVec 32 := Scalar.muli c21_i32_1227 c1_i32_1228
  let v1323 : BitVec 32 := Scalar.addi c0_i32_1229 v1322
  v1323.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_815 : BitVec 32 := 22#32
  let v912 : BitVec 1 := Scalar.cmpi .ne v2 c22_i32_815
  let v913 : BitVec 32 := Scalar.extui v912
  let c0_i32_816 : BitVec 32 := 0#32
  let v914 : BitVec 1 := Scalar.cmpi .ne v913 c0_i32_816
  v914

def k0_dev86 : Nat :=
  let c0_i32_1229 : BitVec 32 := 0#32
  let c22_i32_1227 : BitVec 32 := 22#32
  let c1_i32_1228 : BitVec 32 := 1#32
  let v1322 : BitVec 32 := Scalar.muli c22_i32_1227 c1_i32_1228
  let v1323 : BitVec 32 := Scalar.addi c0_i32_1229 v1322
  v1323.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_817 : BitVec 32 := 23#32
  let v915 : BitVec 1 := Scalar.cmpi .ne v2 c23_i32_817
  let v916 : BitVec 32 := Scalar.extui v915
  let c0_i32_818 : BitVec 32 := 0#32
  let v917 : BitVec 1 := Scalar.cmpi .ne v916 c0_i32_818
  v917

def k0_dev87 : Nat :=
  let c0_i32_1229 : BitVec 32 := 0#32
  let c23_i32_1227 : BitVec 32 := 23#32
  let c1_i32_1228 : BitVec 32 := 1#32
  let v1322 : BitVec 32 := Scalar.muli c23_i32_1227 c1_i32_1228
  let v1323 : BitVec 32 := Scalar.addi c0_i32_1229 v1322
  v1323.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_937 : BitVec 32 := 24#32
  let v1027 : BitVec 1 := Scalar.cmpi .ne v2 c24_i32_937
  let v1028 : BitVec 32 := Scalar.extui v1027
  let c0_i32_938 : BitVec 32 := 0#32
  let v1029 : BitVec 1 := Scalar.cmpi .ne v1028 c0_i32_938
  v1029

def k0_dev88 : Nat :=
  let c0_i32_1229 : BitVec 32 := 0#32
  let c24_i32_1227 : BitVec 32 := 24#32
  let c1_i32_1228 : BitVec 32 := 1#32
  let v1322 : BitVec 32 := Scalar.muli c24_i32_1227 c1_i32_1228
  let v1323 : BitVec 32 := Scalar.addi c0_i32_1229 v1322
  v1323.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_939 : BitVec 32 := 25#32
  let v1030 : BitVec 1 := Scalar.cmpi .ne v2 c25_i32_939
  let v1031 : BitVec 32 := Scalar.extui v1030
  let c0_i32_940 : BitVec 32 := 0#32
  let v1032 : BitVec 1 := Scalar.cmpi .ne v1031 c0_i32_940
  v1032

def k0_dev89 : Nat :=
  let c0_i32_1229 : BitVec 32 := 0#32
  let c25_i32_1227 : BitVec 32 := 25#32
  let c1_i32_1228 : BitVec 32 := 1#32
  let v1322 : BitVec 32 := Scalar.muli c25_i32_1227 c1_i32_1228
  let v1323 : BitVec 32 := Scalar.addi c0_i32_1229 v1322
  v1323.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_941 : BitVec 32 := 26#32
  let v1033 : BitVec 1 := Scalar.cmpi .ne v2 c26_i32_941
  let v1034 : BitVec 32 := Scalar.extui v1033
  let c0_i32_942 : BitVec 32 := 0#32
  let v1035 : BitVec 1 := Scalar.cmpi .ne v1034 c0_i32_942
  v1035

def k0_dev90 : Nat :=
  let c0_i32_1229 : BitVec 32 := 0#32
  let c26_i32_1227 : BitVec 32 := 26#32
  let c1_i32_1228 : BitVec 32 := 1#32
  let v1322 : BitVec 32 := Scalar.muli c26_i32_1227 c1_i32_1228
  let v1323 : BitVec 32 := Scalar.addi c0_i32_1229 v1322
  v1323.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_943 : BitVec 32 := 27#32
  let v1036 : BitVec 1 := Scalar.cmpi .ne v2 c27_i32_943
  let v1037 : BitVec 32 := Scalar.extui v1036
  let c0_i32_944 : BitVec 32 := 0#32
  let v1038 : BitVec 1 := Scalar.cmpi .ne v1037 c0_i32_944
  v1038

def k0_dev91 : Nat :=
  let c0_i32_1229 : BitVec 32 := 0#32
  let c27_i32_1227 : BitVec 32 := 27#32
  let c1_i32_1228 : BitVec 32 := 1#32
  let v1322 : BitVec 32 := Scalar.muli c27_i32_1227 c1_i32_1228
  let v1323 : BitVec 32 := Scalar.addi c0_i32_1229 v1322
  v1323.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_945 : BitVec 32 := 28#32
  let v1039 : BitVec 1 := Scalar.cmpi .ne v2 c28_i32_945
  let v1040 : BitVec 32 := Scalar.extui v1039
  let c0_i32_946 : BitVec 32 := 0#32
  let v1041 : BitVec 1 := Scalar.cmpi .ne v1040 c0_i32_946
  v1041

def k0_dev92 : Nat :=
  let c0_i32_1229 : BitVec 32 := 0#32
  let c28_i32_1227 : BitVec 32 := 28#32
  let c1_i32_1228 : BitVec 32 := 1#32
  let v1322 : BitVec 32 := Scalar.muli c28_i32_1227 c1_i32_1228
  let v1323 : BitVec 32 := Scalar.addi c0_i32_1229 v1322
  v1323.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_947 : BitVec 32 := 29#32
  let v1042 : BitVec 1 := Scalar.cmpi .ne v2 c29_i32_947
  let v1043 : BitVec 32 := Scalar.extui v1042
  let c0_i32_948 : BitVec 32 := 0#32
  let v1044 : BitVec 1 := Scalar.cmpi .ne v1043 c0_i32_948
  v1044

def k0_dev93 : Nat :=
  let c0_i32_1229 : BitVec 32 := 0#32
  let c29_i32_1227 : BitVec 32 := 29#32
  let c1_i32_1228 : BitVec 32 := 1#32
  let v1322 : BitVec 32 := Scalar.muli c29_i32_1227 c1_i32_1228
  let v1323 : BitVec 32 := Scalar.addi c0_i32_1229 v1322
  v1323.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_949 : BitVec 32 := 30#32
  let v1045 : BitVec 1 := Scalar.cmpi .ne v2 c30_i32_949
  let v1046 : BitVec 32 := Scalar.extui v1045
  let c0_i32_950 : BitVec 32 := 0#32
  let v1047 : BitVec 1 := Scalar.cmpi .ne v1046 c0_i32_950
  v1047

def k0_dev94 : Nat :=
  let c0_i32_1229 : BitVec 32 := 0#32
  let c30_i32_1227 : BitVec 32 := 30#32
  let c1_i32_1228 : BitVec 32 := 1#32
  let v1322 : BitVec 32 := Scalar.muli c30_i32_1227 c1_i32_1228
  let v1323 : BitVec 32 := Scalar.addi c0_i32_1229 v1322
  v1323.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_951 : BitVec 32 := 31#32
  let v1048 : BitVec 1 := Scalar.cmpi .ne v2 c31_i32_951
  let v1049 : BitVec 32 := Scalar.extui v1048
  let c0_i32_952 : BitVec 32 := 0#32
  let v1050 : BitVec 1 := Scalar.cmpi .ne v1049 c0_i32_952
  v1050

def k0_dev95 : Nat :=
  let c0_i32_1229 : BitVec 32 := 0#32
  let c31_i32_1227 : BitVec 32 := 31#32
  let c1_i32_1228 : BitVec 32 := 1#32
  let v1322 : BitVec 32 := Scalar.muli c31_i32_1227 c1_i32_1228
  let v1323 : BitVec 32 := Scalar.addi c0_i32_1229 v1322
  v1323.toNat
abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Run.Steps.lean ====
/-
# The kernel's body as a list of steps

The printed body names every device, slot and column by a number. Here the same body is written over symbolic
indices: a device signals the thirty-one others, sends a block of its rows to each of the thirty-two, then takes the
slots quarter by quarter. `printed_eq` says that the printed body is this one.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Launch
public import Idealize.ShloMosaic.Lib.Pipeline.Regions
public import Idealize.ShloMosaic.Lib.Pipeline.Kit
public import Idealize.ShloMosaic.Lib.Tactic

@[expose] public section

noncomputable section

namespace Cert.KernelIdeal.Run

open Cert.KernelIdeal Cert.KernelIdeal.Gen
open Idealize.ShloMosaic Idealize.SL.Sem

variable {F : FTy → Type} [FloatOps F]

/-! ## The views, over symbolic indices -/

theorem inb_sem (k : Fin 32) : ∀ a, (![k.val] : Fin 1 → Nat) a + S1.size a ≤ S32.size a := by decide +revert
theorem inb_slot (j : Fin 32) : ∀ a, (![j.val, 0, 0] : Fin 3 → Nat) a + S1x64x64.size a ≤ S32x64x64.size a := by decide +revert
theorem inb_rows (j : Fin 32) : ∀ a, (![64 * j.val, 0] : Fin 2 → Nat) a + S64x64.size a ≤ S2048x64.size a := by decide +revert
theorem inb_cols (j : Fin 32) : ∀ a, (![0, 64 * j.val] : Fin 2 → Nat) a + S64x64.size a ≤ S64x2048.size a := by decide +revert
theorem inb_wsem (q : Fin 4) : ∀ a, (![q.val] : Fin 1 → Nat) a + S1.size a ≤ S4.size a := by decide +revert
theorem inb_wrows (q : Fin 4) : ∀ a, (![512 * q.val, 0] : Fin 2 → Nat) a + S512x2048.size a ≤ S2048x2048.size a := by decide +revert
theorem inb_xcols (q : Fin 4) : ∀ a, (![0, 512 * q.val] : Fin 2 → Nat) a + S64x512.size a ≤ S64x2048.size a := by decide +revert

abbrev slotRect (j : Fin 32) : Rect S32x64x64 := Rect.unit (s := S32x64x64) ![j.val, 0, 0] S1x64x64.size (inb_slot j)
abbrev rowsRect (j : Fin 32) : Rect S2048x64 := Rect.unit (s := S2048x64) ![64 * j.val, 0] S64x64.size (inb_rows j)
abbrev colsRect (j : Fin 32) : Rect S64x2048 := Rect.unit (s := S64x2048) ![0, 64 * j.val] S64x64.size (inb_cols j)
abbrev wRect (q : Fin 4) : Rect S2048x2048 := Rect.unit (s := S2048x2048) ![512 * q.val, 0] S512x2048.size (inb_wrows q)
abbrev xRect (q : Fin 4) : Rect S64x2048 := Rect.unit (s := S64x2048) ![0, 512 * q.val] S64x512.size (inb_xcols q)
abbrev allX : Rect S2048x64 := Rect.unit (s := S2048x64) ![0, 0] S2048x64.size inb_S2048x64_S2048x64_0_0
abbrev allY : Rect S64x2048 := Rect.unit (s := S64x2048) ![0, 0] S64x2048.size inb_S64x2048_S64x2048_0_0

theorem words_slot (j : Fin 32) : (slotRect j).WholeWords (EltTy.packing .bf16) := by decide +revert +kernel
theorem words_rows (j : Fin 32) : (rowsRect j).WholeWords (EltTy.packing .bf16) := by decide +revert +kernel
theorem packed_cols (j : Fin 32) : (colsRect j).PackedRows (EltTy.packing .bf16) := by decide +revert +kernel

abbrev wM : Memref sig .tc .hbm S2048x2048 .f32 := Memref.whole main_arg1
abbrev oM : Memref sig .tc .hbm S64x2048 .f32 := Memref.whole main_v1
abbrev xM : Memref sig .tc .vmem S2048x64 .f32 := Memref.whole cc0_stg0_0
abbrev bM : Memref sig .tc .vmem S2048x64 .bf16 := Memref.whole cc0_scratch0
abbrev sM : Memref sig .tc .vmem S32x64x64 .bf16 := Memref.whole cc0_scratch1
abbrev gM : Memref sig .tc .vmem S64x2048 .bf16 := Memref.whole cc0_scratch2
abbrev fM : Memref sig .tc .vmem S2048x2048 .f32 := Memref.whole cc0_scratch3
abbrev aM : Memref sig .tc .vmem S64x2048 .f32 := Memref.whole cc0_scratch4
abbrev yM : Memref sig .tc .vmem S64x2048 .f32 := Memref.whole cc0_scratch5

/-- Slot `j` of the stack, as a block of its own. -/
abbrev slotM (j : Fin 32) : Memref sig .tc .vmem S64x64 .bf16 :=
  (sM.slice (slotRect j) (fun _ => rfl)).squeeze S64x64 squeezes_S1x64x64_S64x64
/-- The rows of the cast argument that go to device `j`. -/
abbrev rowsM (j : Fin 32) : Memref sig .tc .vmem S64x64 .bf16 := bM.slice (rowsRect j) (fun _ => rfl)
/-- Quarter `q` of the weights in vector memory. -/
abbrev fQ (q : Fin 4) : Memref sig .tc .vmem S512x2048 .f32 := fM.slice (wRect q) (fun _ => rfl)
/-- Quarter `q` of the weights where they come from. -/
abbrev wQ (q : Fin 4) : Memref sig .tc .hbm S512x2048 .f32 := wM.slice (wRect q) (fun _ => rfl)

abbrev sendS (k : Fin 32) : DmaSem sig :=
  ((cc0_scratch6.slice (Rect.unit (s := S32) ![k.val] S1.size (inb_sem k))).squeeze S_ squeezes_S1_S_).sem
abbrev recvS (k : Fin 32) : DmaSem sig :=
  ((cc0_scratch7.slice (Rect.unit (s := S32) ![k.val] S1.size (inb_sem k))).squeeze S_ squeezes_S1_S_).sem
abbrev wS (q : Fin 4) : DmaSem sig :=
  ((cc0_scratch8.slice (Rect.unit (s := S4) ![q.val] S1.size (inb_wsem q))).squeeze S_ squeezes_S1_S_).sem
abbrev outS : DmaSem sig := cc0_scratch9.sem
abbrev ackS : Sem sig := cc0_scratch10.sem
abbrev barS : Sem sig := (SemArray.scalar (sig.barrier 0 rfl) : Sems sig S_).sem

abbrev PG (F : FTy → Type) : Type 1 := Prog (TpuEff nD τ sig (Elt F) Λ₀ .tc) PUnit

/-! ## The steps, each over the rest of the program -/

/-- Signal the barrier of each device `k` places on, for the `k` listed. -/
def signals (d : Dev nD) : List (Fin 32) → PG F → PG F
  | [], r => r
  | k :: ks, r => semSignalWord (d + k : Dev nD) barS 1#32 >>= fun _ => signals d ks r

/-- Send each device `k` places on its rows of the cast argument, into the slot of the sender. -/
def sends (d : Dev nD) : List (Fin 32) → PG F → PG F
  | [], r => r
  | k :: ks, r => .op (.enqueueDma (rowsM (d + k)) (.remote (Dev.tc (d + k : Dev nD)) (slotM d) (.dma (sendS k))) (.dma (recvS d))
      ((Memref.isWhole_whole cc0_scratch0).wordExact_slice rfl _ (words_rows (d + k)))
      (((Memref.isWhole_whole cc0_scratch1).wordExact_slice rfl _ (words_slot d)).reshape _ _) ⟨⟨rfl, Or.inl rfl⟩, trivial⟩)
      fun _ => sends d ks r

/-- Start the copies of the listed quarters of the weights. -/
def fetches : List (Fin 4) → PG F → PG F
  | [], r => r
  | q :: qs, r => .op (.enqueueDma (wQ q) (.here (fQ q)) (.dma (wS q)) (View.wordExact_bits rfl) (View.wordExact_bits rfl)
      ⟨Or.inl rfl, trivial⟩) fun _ => fetches qs r

/-- Wait for each listed slot and put it at its columns. -/
def takes : List (Fin 32) → PG F → PG F
  | [], r => r
  | j :: js, r => .op (.waitDma2 (recvS j) (rowsM 0) (slotM j)
        ((Memref.isWhole_whole cc0_scratch0).wordExact_slice rfl _ (words_rows 0))
        (((Memref.isWhole_whole cc0_scratch1).wordExact_slice rfl _ (words_slot j)).reshape _ _)) fun _ =>
      .op (.load sM (slotRect j).toLoadRect (View.loadsAt_vmem h_S1x64x64)) fun v =>
      .op (.load gM (colsRect j).toLoadRect (View.loadsAt_vmem h_S64x64)) fun _ =>
      .op (.store gM (colsRect j) (k0_pay2 v) Finset.univ
        (View.stores_vmem h_S64x64 ((Memref.isWhole_whole cc0_scratch2).storeExact_slice rfl _ (packed_cols j)) (fun _ => rfl)) (.inl rfl))
      fun _ => takes js r

/-- Acknowledge each listed device other than this one. -/
def acks (d : Dev nD) : List (Fin 32) → PG F → PG F
  | [], r => r
  | j :: js, r => if d = j then acks d js r else semSignalWord (j : Dev nD) ackS 1#32 >>= fun _ => acks d js r

/-- Wait for the sends. -/
def waits (d : Dev nD) : List (Fin 32) → PG F → PG F
  | [], r => r
  | k :: ks, r => .op (.waitDma2 (sendS k) (slotM d) (rowsM (d + k))
        (((Memref.isWhole_whole cc0_scratch1).wordExact_slice rfl _ (words_slot d)).reshape _ _)
        ((Memref.isWhole_whole cc0_scratch0).wordExact_slice rfl _ (words_rows (d + k)))) fun _ => waits d ks r

/-- Wait for quarter `q` of the weights, read it and the matching columns. -/
def reads (q : Fin 4) (r : Vec F S64x512 .bf16 → Vec F S512x2048 .f32 → PG F) : PG F :=
  .op (.waitDma2 (wS q) (wQ q) (fQ q) (View.wordExact_bits rfl) (View.wordExact_bits rfl)) fun _ =>
  .op (.load gM (xRect q).toLoadRect (View.loadsAt_vmem h_S64x512)) fun x =>
  .op (.load fM (wRect q).toLoadRect (View.loadsAt_vmem h_S512x2048)) fun w => r x w

abbrev loadAcc (r : Vec F S64x2048 .f32 → PG F) : PG F :=
  .op (.load aM allY.toLoadRect (View.loadsAt_vmem h_S64x2048)) r
abbrev storeAcc (v : Vec F S64x2048 .f32) (r : PG F) : PG F :=
  .op (.store aM allY v Finset.univ (View.stores_vmem_bits_univ h_S64x2048 rfl) (.inl rfl)) fun _ => r

/-- The first quarter's product starts the accumulator. -/
def accFirst (q : Fin 4) (r : PG F) : PG F :=
  reads q fun x w => loadAcc fun _ => storeAcc (k0_pay10 x w) r
/-- A middle quarter's product is added to it. -/
def accNext (q : Fin 4) (r : PG F) : PG F :=
  reads q fun x w => loadAcc fun a => loadAcc fun _ => storeAcc (k0_pay31 x w a) r
/-- The last quarter's product is added to it, and the positive part kept. -/
def accLast (q : Fin 4) (r : PG F) : PG F :=
  reads q fun x w => loadAcc fun a =>
  .op (.load yM allY.toLoadRect (View.loadsAt_vmem h_S64x2048)) fun _ =>
  .op (.store yM allY (k0_pay40 x w a) Finset.univ (View.stores_vmem_bits_univ h_S64x2048 rfl) (.inl rfl)) fun _ => r

abbrev ks31 : List (Fin 32) := [1, 2, 3, 4, 5, 6, 7, 8, 9, 10, 11, 12, 13, 14, 15, 16, 17, 18, 19, 20, 21, 22, 23, 24, 25, 26, 27, 28, 29, 30, 31]
abbrev js0 : List (Fin 32) := [0, 1, 2, 3, 4, 5, 6, 7]
abbrev js1 : List (Fin 32) := [8, 9, 10, 11, 12, 13, 14, 15]
abbrev js2 : List (Fin 32) := [16, 17, 18, 19, 20, 21, 22, 23]
abbrev js3 : List (Fin 32) := [24, 25, 26, 27, 28, 29, 30, 31]

/-- After the last quarter: the result goes out, the sends and the acknowledgements are waited for. -/
def finish (d : Dev nD) : PG F :=
  .op (.enqueueDma yM (.here oM) (.dma outS) (Memref.isWhole_whole cc0_scratch5).wordExact (Memref.isWhole_whole main_v1).wordExact
    ⟨Or.inl rfl, trivial⟩) fun _ =>
  waits d (0 :: ks31) (semWaitWord ackS 31#32 >>= fun _ =>
  .op (.waitDma2 outS yM oM (Memref.isWhole_whole cc0_scratch5).wordExact (Memref.isWhole_whole main_v1).wordExact) fun _ => .ret ⟨⟩)

/-- The four quarters. -/
def quarters (d : Dev nD) (r : PG F) : PG F :=
  takes js0 <| acks d js0 <| accFirst 0 <|
  takes js1 <| acks d js1 <| accNext 1 <|
  takes js2 <| acks d js2 <| accNext 2 <|
  takes js3 <| acks d js3 <| accLast 3 r

/-- The cast of the argument. -/
def cast (r : PG F) : PG F :=
  .op (.load xM allX.toLoadRect (View.loadsAt_vmem h_S2048x64)) fun v =>
  .op (.load bM allX.toLoadRect (View.loadsAt_vmem h_S2048x64)) fun _ =>
  .op (.store bM allX (k0_pay1 v) Finset.univ
    (View.stores_vmem h_S2048x64 ((Memref.isWhole_whole cc0_scratch0).storeExact_slice rfl _ packedbf16_S2048x64_S2048x64_0_0) (fun _ => rfl)) (.inl rfl))
  fun _ => r

/-- The body on device `d`. -/
def steps (d : Dev nD) : PG F :=
  signals d ks31 <| semWaitWord barS 31#32 >>= fun _ => cast <| sends d (0 :: ks31) <| fetches [0, 1, 2, 3] <|
  quarters d <| finish d

/-- What a program that first asks which device it is on does there. -/
def onDev (p : PG F) (d : Dev nD) : PG F :=
  match p with
  | .op .deviceId k => k d
  | p => p

/-- The printed body. -/
abbrev printed : PG F := bodyAt0 t0_0

theorem printed_asks : (printed (F := F)) = .op .deviceId (fun d => onDev printed d) := by chain_rfl

set_option maxRecDepth 100000 in
theorem onDev_printed (d : Dev nD) : onDev (printed (F := F)) d = steps d := by
  fin_cases d <;> chain_rfl

/-- The printed body is the steps: it asks for its device and takes that device's. -/
theorem printed_eq : (printed (F := F)) = .op .deviceId steps := by
  rw [printed_asks]; congr 1; funext d; exact onDev_printed d

end Cert.KernelIdeal.Run
-- ==== Proof.Run.Protocol.lean ====
/-
# The protocol of the thirty-two devices

Every device signals every other device's barrier, and with the signal hands over the slot of its own stack that the
other will write. A device past its barrier therefore holds its slot on each of the thirty-one others (and its own), and
sends each device its block of rows. The receive cell `j` of a device hands it slot `j`, holding device `j`'s block.
The send cells hand the rows back, the weight cells a quarter of the weights, the output cell the result. The
acknowledgement cell counts units that carry nothing.
-/
module

public import proofs.«01_k».proof.Proof.Run.Steps
public import Idealize.ShloMosaic.Lib.Rounds
public import Idealize.ShloMosaic.Lib.Pipeline.BigSepL

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The cells -/

abbrev cell (c : Dev nD) (sm : SemLoc sig) : GSem nD τ sig := ((c : Thread nD τ), sm)
abbrev barCell (c : Dev nD) : GSem nD τ sig := cell c (.reg barS)
abbrev ackCell (c : Dev nD) : GSem nD τ sig := cell c (.reg ackS)
abbrev sendCell (c : Dev nD) (k : Fin 32) : GSem nD τ sig := cell c (.dma (sendS k))
abbrev recvCell (c : Dev nD) (j : Fin 32) : GSem nD τ sig := cell c (.dma (recvS j))
abbrev wCell (c : Dev nD) (q : Fin 4) : GSem nD τ sig := cell c (.dma (wS q))
abbrev outCell (c : Dev nD) : GSem nD τ sig := cell c (.dma outS)

theorem sendS_val (k : Fin 32) : (sendS k).val = 1 + k.val := by decide +revert
theorem recvS_val (k : Fin 32) : (recvS k).val = 33 + k.val := by decide +revert
theorem wS_val (q : Fin 4) : (wS q).val = 65 + q.val := by decide +revert
theorem outS_val : (outS : DmaSem sig).val = 69 := by decide
theorem ack_ne_bar : (ackS : Sem sig) ≠ barS := by decide

/-- The credit of a 64×64 block. -/
abbrev NB : ℕ := (slotM 0).view.dmaCredit
/-- The credit of a quarter of the weights. -/
abbrev NW : ℕ := (fQ 0).view.dmaCredit
/-- The credit of the result. -/
abbrev NO : ℕ := oM.view.dmaCredit
theorem NB_pos : 0 < NB := View.dmaCredit_pos _ (by decide)
theorem NW_pos : 0 < NW := View.dmaCredit_pos _ (by decide)
theorem NO_pos : 0 < NO := View.dmaCredit_pos _ (by decide)

/-! ## Contents -/

/-- Device `c`'s block of the argument, as staged. -/
def xstg (c : Dev nD) : (cc0_stg0_0 : Ref sig .tc).ty.Contents (Elt F) :=
  (win0_0.blk (0 : Fin 1)).view.read (Elt F) ((s₀ m ρ).mem ((c : Thread nD τ).loc main_arg0))

/-- That block, cast. -/
def xb (c : Dev nD) : (cc0_scratch0 : Ref sig .tc).ty.Contents (Elt F) := k0_pay1 (xstg m ρ c)

/-- The weights device `c` holds. -/
def wv (c : Dev nD) : (main_arg1 : Ref sig .tc).ty.Contents (Elt F) := (s₀ m ρ).mem ((c : Thread nD τ).loc main_arg1)

/-- The block of rows that device `j` sends device `c`. -/
def blk (j c : Dev nD) : S64x64.Idx → Elt F .bf16 := (rowsM c).view.read (Elt F) (xb m ρ j)

/-- Columns `512 q …` of what device `c` assembles: column `n` is column `n % 64` of device `n / 64`'s block. -/
def xq (c : Dev nD) (q : Fin 4) : Vec F S64x512 .bf16 := fun i =>
  blk m ρ ⟨(512 * q.val + (i 1).val) / 64, by
    have h : (i 1).val < 512 := (i 1).isLt
    have := q.isLt
    show _ < 32
    omega⟩ c (fun a => match a with
      | ⟨0, _⟩ => (i 0 : Fin 64)
      | ⟨1, _⟩ => (⟨(i 1).val % 64, Nat.mod_lt _ (by decide)⟩ : Fin 64))

/-- Rows `512 q …` of the weights. -/
def wq (c : Dev nD) (q : Fin 4) : Vec F S512x2048 .f32 := (wQ q).view.read (Elt F) (wv m ρ c)

/-- The accumulator after one, two and three quarters, and the result. -/
def acc1 (c : Dev nD) : Vec F S64x2048 .f32 := k0_pay10 (xq m ρ c 0) (wq m ρ c 0)
def acc2 (c : Dev nD) : Vec F S64x2048 .f32 := k0_pay31 (xq m ρ c 1) (wq m ρ c 1) (acc1 m ρ c)
def acc3 (c : Dev nD) : Vec F S64x2048 .f32 := k0_pay31 (xq m ρ c 2) (wq m ρ c 2) (acc2 m ρ c)
def yv (c : Dev nD) : Vec F S64x2048 .f32 := k0_pay40 (xq m ρ c 3) (wq m ρ c 3) (acc3 m ρ c)

/-! ## What is handed over -/

/-- Elements of a buffer of device `c` under a view. -/
abbrev pts {sp : Space} {s : Shape} {e : EltTy} (c : Dev nD) (M : Memref sig .tc sp s e)
    (f : Buf (Elt F) (M.view.loc (c : Thread nD τ))) : sProp 𝕄 :=
  M.view.loc (c : Thread nD τ) ↦[M.view.set]{fullShare} f

/-- Slot `j` of device `c`, holding anything. -/
def anySlot (c : Dev nD) (j : Fin 32) : sProp 𝕄 := iprop(∃ f, pts c (slotM j) f)
/-- The rows of the cast argument for device `j`. -/
def rowsPts (c : Dev nD) (j : Fin 32) : sProp 𝕄 := pts c (rowsM j) (xb m ρ c)
/-- Slot `j` of device `c`, holding device `j`'s block. -/
def gotSlot (c : Dev nD) (j : Fin 32) : sProp 𝕄 :=
  iprop(∃ f, ⌜(slotM j).view.read (Elt F) f = blk m ρ j c⌝ ∗ pts c (slotM j) f)
/-- A quarter of the weights where they come from. -/
def wSrc (c : Dev nD) (q : Fin 4) : sProp 𝕄 := pts c (wQ q) (wv m ρ c)
/-- A quarter of the weights' place in vector memory, holding anything. -/
def anyF (c : Dev nD) (q : Fin 4) : sProp 𝕄 := iprop(∃ f, pts c (fQ q) f)
/-- That quarter, arrived. -/
def gotF (c : Dev nD) (q : Fin 4) : sProp 𝕄 :=
  iprop(∃ f, ⌜(fQ q).view.read (Elt F) f = wq m ρ c q⌝ ∗ pts c (fQ q) f)
/-- The result, out. -/
def outPay (c : Dev nD) : sProp 𝕄 := iprop(pts c oM (yv m ρ c) ∗ pts c yM (yv m ρ c))

instance anySlot_storable (c : Dev nD) (j) : BI.Storable (upEmb : UEmb _ 𝕄) (anySlot (F := F) c j) := by unfold anySlot; infer_instance
instance rowsPts_storable (c : Dev nD) (j) : BI.Storable (upEmb : UEmb _ 𝕄) (rowsPts (F := F) m ρ c j) := by unfold rowsPts; infer_instance
instance gotSlot_storable (c : Dev nD) (j) : BI.Storable (upEmb : UEmb _ 𝕄) (gotSlot (F := F) m ρ c j) := by unfold gotSlot; infer_instance
instance wSrc_storable (c : Dev nD) (q) : BI.Storable (upEmb : UEmb _ 𝕄) (wSrc (F := F) m ρ c q) := by unfold wSrc; infer_instance
instance gotF_storable (c : Dev nD) (q) : BI.Storable (upEmb : UEmb _ 𝕄) (gotF (F := F) m ρ c q) := by unfold gotF; infer_instance
instance outPay_storable (c : Dev nD) : BI.Storable (upEmb : UEmb _ 𝕄) (outPay (F := F) m ρ c) := by unfold outPay; infer_instance

/-- What a transfer cell of device `c` hands it. -/
def dmaPay (c : Dev nD) (s : DmaSem sig) : sProp 𝕄 :=
  if h : 1 ≤ s.val ∧ s.val < 33 then rowsPts m ρ c (c + (⟨s.val - 1, by omega⟩ : Fin 32))
  else if h : 33 ≤ s.val ∧ s.val < 65 then gotSlot m ρ c ⟨s.val - 33, by omega⟩
  else if h : 65 ≤ s.val ∧ s.val < 69 then iprop(gotF m ρ c ⟨s.val - 65, by omega⟩ ∗ wSrc m ρ c ⟨s.val - 65, by omega⟩)
  else outPay m ρ c

instance dmaPay_storable (c : Dev nD) (s) : BI.Storable (upEmb : UEmb _ 𝕄) (dmaPay (F := F) m ρ c s) := by
  unfold dmaPay; (repeat' split) <;> infer_instance

def dmaAmt (s : DmaSem sig) : ℕ := if s.val < 65 then NB else if s.val < 69 then NW else NO

/-- One round. A regular cell has one duty of one unit per other device; a transfer cell one duty of its block's credit. -/
def Rd : Rounds.Schedule (GSem nD τ sig) (Dev nD) 𝕄 where
  duties g r := if r = 0 ∧ g.1.2 = .tc then (match g.2 with | .reg _ => Finset.univ.erase g.1.1 | .dma _ => {0}) else ∅
  unitless _ := False
  amount g _ _ := match g.2 with | .reg _ => 1 | .dma s => dmaAmt s
  payload g _ d := match g.2 with
    | .reg s => if s = barS then anySlot d g.1.1 else iprop(emp)
    | .dma s => dmaPay m ρ g.1.1 s
  amount_pos g _ _ _ := by
    rcases g with ⟨_, s | s⟩
    · exact Nat.one_pos
    · show 0 < dmaAmt s
      unfold dmaAmt; split; · exact NB_pos
      split; · exact NW_pos
      exact NO_pos

instance Rd_payload_storable (g : GSem nD τ sig) (r : ℕ) (d : Dev nD) :
    BI.Storable (upEmb : UEmb _ 𝕄) ((Rd (F := F) m ρ).payload g r d) := by
  rcases g with ⟨t, s | s⟩
  · show BI.Storable upEmb (if s = barS then anySlot d t.1 else iprop(emp)); split <;> infer_instance
  · show BI.Storable upEmb (dmaPay m ρ t.1 s); infer_instance

section Sched
variable (c : Dev nD)

theorem duties_reg (s : Sem sig) : (Rd (F := F) m ρ).duties (cell c (.reg s)) 0 = Finset.univ.erase c := by dsimp only [Rd]; exact if_pos ⟨rfl, rfl⟩
theorem duties_dma (s : DmaSem sig) : (Rd (F := F) m ρ).duties (cell c (.dma s)) 0 = {0} := by dsimp only [Rd]; exact if_pos ⟨rfl, rfl⟩
theorem mem_dma (s : DmaSem sig) : (0 : Dev nD) ∈ (Rd (F := F) m ρ).duties (cell c (.dma s)) 0 := by
  rw [duties_dma]; exact Finset.mem_singleton_self _
theorem duties_later (g : GSem nD τ sig) : ∀ r, 1 ≤ r → (Rd (F := F) m ρ).duties g r = ∅ :=
  fun r hr => by dsimp only [Rd]; rw [if_neg fun h => by omega]

theorem amount_reg (s : Sem sig) (d : Dev nD) : (Rd (F := F) m ρ).amount (cell c (.reg s)) 0 d = 1 := rfl
theorem amount_dma (s : DmaSem sig) (d : Dev nD) : (Rd (F := F) m ρ).amount (cell c (.dma s)) 0 d = dmaAmt s := rfl
theorem amt_send (k : Fin 32) : dmaAmt (sendS k) = NB := by unfold dmaAmt; rw [sendS_val, if_pos (by omega)]
theorem amt_recv (k : Fin 32) : dmaAmt (recvS k) = NB := by unfold dmaAmt; rw [recvS_val, if_pos (by omega)]
theorem amt_w (q : Fin 4) : dmaAmt (wS q) = NW := by unfold dmaAmt; rw [wS_val, if_neg (by omega), if_pos (by omega)]
theorem amt_out : dmaAmt outS = NO := by unfold dmaAmt; rw [outS_val, if_neg (by omega), if_neg (by omega)]

theorem expect_reg (s : Sem sig) : (Rd (F := F) m ρ).expect (cell c (.reg s)) 0 = 31 := by
  unfold Schedule.expect Schedule.amountOf
  rw [duties_reg, Finset.sum_congr rfl fun d _ => amount_reg m ρ c s d, Finset.sum_const, Finset.card_erase_of_mem (Finset.mem_univ _),
    Finset.card_univ]; rfl
theorem expect_dma (s : DmaSem sig) : (Rd (F := F) m ρ).expect (cell c (.dma s)) 0 = dmaAmt s := by
  unfold Schedule.expect Schedule.amountOf; rw [duties_dma, Finset.sum_singleton, amount_dma]

theorem payload_bar (d : Dev nD) : (Rd (F := F) m ρ).payload (barCell c) 0 d = anySlot d c := by dsimp only [Rd]; rw [if_pos rfl]
theorem payload_ack (d : Dev nD) : (Rd (F := F) m ρ).payload (ackCell c) 0 d = iprop(emp) := by dsimp only [Rd]; rw [if_neg ack_ne_bar]
theorem payload_dma (s : DmaSem sig) (d : Dev nD) : (Rd (F := F) m ρ).payload (cell c (.dma s)) 0 d = dmaPay m ρ c s := rfl

theorem pay_send (k : Fin 32) : dmaPay (F := F) m ρ c (sendS k) = rowsPts m ρ c (c + k) := by
  unfold dmaPay; rw [dif_pos (by rw [sendS_val]; omega)]
  congr 2; apply Fin.ext; show (sendS k).val - 1 = k.val; rw [sendS_val]; omega
theorem pay_recv (j : Fin 32) : dmaPay (F := F) m ρ c (recvS j) = gotSlot m ρ c j := by
  unfold dmaPay; rw [dif_neg (by rw [recvS_val]; omega), dif_pos (by rw [recvS_val]; omega)]
  congr 1; apply Fin.ext; show (recvS j).val - 33 = j.val; rw [recvS_val]; omega
theorem pay_w (q : Fin 4) : dmaPay (F := F) m ρ c (wS q) = iprop(gotF m ρ c q ∗ wSrc m ρ c q) := by
  unfold dmaPay; rw [dif_neg (by rw [wS_val]; omega), dif_neg (by rw [wS_val]; omega), dif_pos (by rw [wS_val]; omega)]
  have h : (⟨(wS q).val - 65, by rw [wS_val]; omega⟩ : Fin 4) = q := by apply Fin.ext; show (wS q).val - 65 = q.val; rw [wS_val]; omega
  rw [h]
theorem pay_out : dmaPay (F := F) m ρ c outS = outPay m ρ c := by
  unfold dmaPay; rw [dif_neg (by rw [outS_val]; omega), dif_neg (by rw [outS_val]; omega), dif_neg (by rw [outS_val]; omega)]

theorem rest_dma (s : DmaSem sig) : bigSep ((Rd (F := F) m ρ).duties (cell c (.dma s)) 0 \ ∅) (fun d => (Rd (F := F) m ρ).payload (cell c (.dma s)) 0 d)
    = dmaPay m ρ c s := by
  rw [Finset.sdiff_empty, duties_dma, bigSep_singleton, payload_dma]
theorem rest_bar : bigSep ((Rd (F := F) m ρ).duties (barCell c) 0 \ ∅) (fun d => (Rd (F := F) m ρ).payload (barCell c) 0 d)
    = bigSep (Finset.univ.erase c) fun d => anySlot d c := by
  rw [Finset.sdiff_empty, duties_reg]; exact bigSep_congr fun d _ => payload_bar m ρ c d

end Sched

/-! ## What each device owes, and the levels -/

/-- A unit to the barrier of each device `k` places on. -/
def oweBar (c : Dev nD) (ks : List (Fin 32)) : CellTallies nD τ sig Unit := (ks.map fun k => tallyAt (barCell (c + k)) () 1).sum
/-- A block's credit to the receive cell `c` of each device `k` places on. -/
def oweRecv (c : Dev nD) (ks : List (Fin 32)) : CellTallies nD τ sig Unit := (ks.map fun k => tallyAt (recvCell (c + k) c) () NB).sum
/-- A unit to the acknowledgement cell of each listed device other than `c`. -/
def oweAck (c : Dev nD) (js : List (Fin 32)) : CellTallies nD τ sig Unit :=
  (js.map fun j => if c = j then 0 else tallyAt (ackCell j) () 1).sum

/-- What device `c` owes past its barrier's signals and its sends. -/
def oweLate (c : Dev nD) : CellTallies nD τ sig Unit := 0 + oweAck c js3 + oweAck c js2 + oweAck c js1 + oweAck c js0
def O₀ (c : Dev nD) : CellTallies nD τ sig Unit := oweLate c + oweRecv c (0 :: ks31) + oweBar c ks31

def L (g : GSem nD τ sig) : Finset Unit := if g.1.2 = .tc then {()} else ∅
/-- Barrier cells at 1, receive cells at 2, acknowledgement cells at 3, all others at 0. -/
def lv (g : GSem nD τ sig) (_ : Unit) : ℕ := match g.2 with
  | .reg s => if s = barS then 1 else 3
  | .dma s => if 33 ≤ s.val ∧ s.val < 65 then 2 else 0

theorem L_of_ne (g : GSem nD τ sig) (h : g.1.2 ≠ .tc) : L g = ∅ := if_neg h
theorem L_tc (c : Dev nD) (sm : SemLoc sig) : L (cell c sm) = {()} := if_pos rfl

theorem lv_bar (c : Dev nD) : lv (barCell c) () = 1 := by dsimp only [lv]; rw [if_pos rfl]
theorem lv_ack (c : Dev nD) : lv (ackCell c) () = 3 := by dsimp only [lv]; rw [if_neg ack_ne_bar]
theorem lv_recv (c : Dev nD) (j : Fin 32) : lv (recvCell c j) () = 2 := by dsimp only [lv]; rw [if_pos (by rw [recvS_val]; omega)]
theorem lv_low (c : Dev nD) (s : DmaSem sig) (h : ¬ (33 ≤ s.val ∧ s.val < 65)) : lv (cell c (.dma s)) () = 0 := by dsimp only [lv]; rw [if_neg h]

/-- All that is owed lies above level `n`. -/
def Above (n : ℕ) (O : CellTallies nD τ sig Unit) : Prop := ∀ g u, 0 < O g u → u ∈ L g ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.tally {n : ℕ} (c : Dev nD) (sm : SemLoc sig) (a : ℕ) (h : n < lv (cell c sm) ()) : Above n (tallyAt (cell c sm) () a) := fun g u hg => by
  rw [tallyAt_apply] at hg
  by_cases h' : g = cell c sm ∧ u = ()
  · rw [h'.1, L_tc]; exact ⟨Finset.mem_singleton_self _, h⟩
  · rw [if_neg h'] at hg; exact absurd hg (Nat.lt_irrefl 0)
theorem Above.list {n : ℕ} (f : Fin 32 → CellTallies nD τ sig Unit) (h : ∀ k, Above n (f k)) (ks : List (Fin 32)) : Above n (ks.map f).sum := by
  induction ks with
  | nil => exact Above.zero n
  | cons k ks ih => rw [List.map_cons, List.sum_cons]; exact (h k).add ih

theorem above_bar {n : ℕ} (hn : n < 1) (c : Dev nD) (ks : List (Fin 32)) : Above n (oweBar c ks) :=
  Above.list _ (fun k => Above.tally _ _ _ (by rw [lv_bar]; exact hn)) ks
theorem above_recv {n : ℕ} (hn : n < 2) (c : Dev nD) (ks : List (Fin 32)) : Above n (oweRecv c ks) :=
  Above.list _ (fun k => Above.tally _ _ _ (by rw [lv_recv]; exact hn)) ks
theorem above_ack {n : ℕ} (hn : n < 3) (c : Dev nD) (js : List (Fin 32)) : Above n (oweAck c js) :=
  Above.list _ (fun j => by
    by_cases h : c = j
    · rw [if_pos h]; exact Above.zero n
    · rw [if_neg h]; exact Above.tally _ _ _ (by rw [lv_ack]; exact hn)) js
theorem above_late {n : ℕ} (hn : n < 3) (c : Dev nD) : Above n (oweLate c) :=
  ((((Above.zero n).add (above_ack hn c js3)).add (above_ack hn c js2)).add (above_ack hn c js1)).add (above_ack hn c js0)
theorem above_O₀ (c : Dev nD) : Above 0 (O₀ c) :=
  ((above_late (by decide) c).add (above_recv (by decide) c _)).add (above_bar (by decide) c _)

/-- A device may wait on a cell at or below the level all it owes lies above. -/
theorem mayWait {n : ℕ} (c : Dev nD) (sm : SemLoc sig) (O : CellTallies nD τ sig Unit) (hs : lv (cell c sm) () ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hs) (fun g u hg => (hO g u hg).2)

/-! ## All the cells of a device, and what is known of them -/

/-- The cells of a device the launch knows as the kernel's own: acknowledgement, output, weights, sends, receives. -/
abbrev OK : Type := Unit ⊕ Unit ⊕ Fin 4 ⊕ Fin 32 ⊕ Fin 32
/-- All of them: those and the barrier. -/
abbrev CK : Type := Unit ⊕ OK

set_option synthInstance.maxSize 2000 in
instance : DecidableEq OK := inferInstance
instance : DecidableEq CK := instDecidableEqSum
instance : DecidableEq (Dev nD × CK) := instDecidableEqProd

abbrev osem : OK → SemLoc sig
  | .inl _ => .reg ackS
  | .inr (.inl _) => .dma outS
  | .inr (.inr (.inl q)) => .dma (wS q)
  | .inr (.inr (.inr (.inl k))) => .dma (sendS k)
  | .inr (.inr (.inr (.inr j))) => .dma (recvS j)
abbrev csem : CK → SemLoc sig
  | .inl _ => .reg barS
  | .inr k => osem k
abbrev kcell (ck : Dev nD × CK) : GSem nD τ sig := cell ck.1 (csem ck.2)

abbrev kBar : CK := .inl ()
abbrev kAck : CK := .inr (.inl ())
abbrev kOut : CK := .inr (.inr (.inl ()))
abbrev kW (q : Fin 4) : CK := .inr (.inr (.inr (.inl q)))
abbrev kSend (k : Fin 32) : CK := .inr (.inr (.inr (.inr (.inl k))))
abbrev kRecv (j : Fin 32) : CK := .inr (.inr (.inr (.inr (.inr j))))

/-- Every cell's invariant, and that every cell has reached round 0. -/
def records (K : Dev nD × CK → ℕ) : sProp 𝕄 :=
  iprop((bigSep Finset.univ fun ck : Dev nD × CK => cellInv ER (Rd m ρ) (K ck) (kcell ck))
    ∗ bigSep Finset.univ fun ck : Dev nD × CK => reached ER (kcell ck) 0)

instance records_persistent (K : Dev nD × CK → ℕ) : BI.Persistent (records m ρ K) := by unfold records; infer_instance

theorem bigSep_at {I : Type} [Fintype I] [DecidableEq I] (Φ : I → sProp 𝕄) (i : I) : bigSep Finset.univ Φ ⊢ Φ i :=
  bigSep_elim (Finset.mem_univ i)

theorem inv_at (K : Dev nD × CK → ℕ) (ck : Dev nD × CK) : records m ρ K ⊢ cellInv ER (Rd m ρ) (K ck) (kcell ck) := by
  unfold records; iintro ⟨H, -⟩
  iapply (bigSep_at (fun ck : Dev nD × CK => (cellInv ER (Rd m ρ) (K ck) (kcell ck) : sProp 𝕄)) ck); iexact H
theorem reached_at (K : Dev nD × CK → ℕ) (ck : Dev nD × CK) : records m ρ K ⊢ reached ER (kcell ck) 0 := by
  unfold records; iintro ⟨-, H⟩
  iapply (bigSep_at (fun ck : Dev nD × CK => (reached ER (kcell ck) 0 : sProp 𝕄)) ck); iexact H

end Cert.KernelIdeal.Run
-- ==== Proof.Run.Moves.lean ====
/-
# What each list of steps does

One statement per list of steps: from what its members need, to what they leave, by induction over the list.
-/
module

public import proofs.«01_k».proof.Proof.Run.Protocol

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The program `p` on device `c` runs and ends with `Q`. -/
abbrev runs (c : Dev nD) (p : PG F) (Q : PUnit.{1} → sProp 𝕄) : sProp 𝕄 :=
  wp frame (wpE (defs₀ (F := F)) 𝒱₀ (c : Thread nD τ) none) Set.univ p Q

section Moves
variable (K : Dev nD × CK → ℕ) (c : Dev nD)

/-! ## The barrier -/

/-- What the signal to the device `k` places on takes: the duty's token and the slot that device will write. -/
def sigRes (k : Fin 32) : sProp 𝕄 := iprop(dutyTok ER (barCell (c + k)) 0 c ∗ anySlot c (c + k))

theorem self_eq_add (c k : Fin 32) (h : c = c + k) : k = 0 := by revert c k; decide

/-- The listed signals pay their units. -/
theorem runs_signals {Q : PUnit → sProp 𝕄} (ks : List (Fin 32)) (hks : ∀ k ∈ ks, k ≠ 0) (r : PG F) (O : CellTallies nD τ sig Unit) (W : Waits sig Unit) :
    iprop(records m ρ K ∗ owes (c : Thread nD τ) (O + oweBar c ks) W ∗ bigSepL ks (sigRes (F := F) c))
      ⊢ iprop((owes (c : Thread nD τ) O W -∗ runs c r Q) -∗ runs c (signals c ks r) Q) := by
  induction ks with
  | nil =>
    iintro ⟨#HR, HO, -⟩ Hk
    iapply Hk
    rw [show O + oweBar c [] = O from by simp [oweBar]]
    iexact HO
  | cons k ks ih =>
    rw [show O + oweBar c (k :: ks) = (O + oweBar c ks) + tallyAt (barCell (c + k)) () 1 from by
      unfold oweBar; rw [List.map_cons, List.sum_cons, add_comm (tallyAt _ _ _), ← add_assoc], bigSepL_cons']
    show _ ⊢ iprop(_ -∗ runs c (semSignalWord (c + k : Dev nD) barS 1#32 >>= fun _ => signals c ks r) Q)
    simp only [semSignalWord, Prog.lift, Prog.bind_op, Prog.bind_ret, Prog.pure_eq_ret]
    iintro ⟨#HR, HO, Hk0, Hks⟩ Hk
    unfold sigRes
    icases Hk0 with ⟨Ht, Hs⟩
    iapply (Rounds.wp_signal 𝒱₀ ER (Rd m ρ) (c : Thread nD τ) none (dst := ((c + k : Dev nD) : Thread nD τ)) (κ := K (c + k, kBar))
      (d := c) (by
        rw [duties_reg]
        exact Finset.mem_erase.mpr ⟨fun h => hks k List.mem_cons_self (self_eq_add c k h), Finset.mem_univ _⟩)
      ((amount_reg m ρ (c + k) barS c).trans (by decide)) () (O + oweBar c ks) rfl) $$ [HO Ht Hs]
    · isplitr; · iapply (inv_at m ρ K (c + k, kBar)); iexact HR
      isplitl [HO]; · iexact HO
      isplitl [Ht]; · iexact Ht
      isplitl [Hs]; · rw [payload_bar]; iexact Hs
      iapply (reached_at m ρ K (c + k, kBar)); iexact HR
    iintro HO
    iapply (ih (fun k' h => hks k' (List.mem_cons_of_mem _ h))) $$ [HO Hks]
    · isplitr; · iexact HR
      isplitl [HO]; · iexact HO
      unfold sigRes; iexact Hks
    iexact Hk

/-- The wait for the thirty-one others' signals brings their slots for this device. -/
theorem runs_barrier {Q : PUnit → sProp 𝕄} (r : PG F) (O : CellTallies nD τ sig Unit) (hO : Above 1 O) (W : Waits sig Unit) :
    iprop(records m ρ K ∗ levAts L lv ∗ cred (tallyAt (barCell c) () 31) ∗ owes (c : Thread nD τ) O W ∗ atPos ER (barCell c) 0 ∅ 0)
      ⊢ iprop((((∃ W, owes (c : Thread nD τ) O W) ∗ atPos ER (barCell c) 1 ∅ 0 ∗ bigSep (Finset.univ.erase c) fun d => anySlot (F := F) d c) -∗ runs c r Q)
          -∗ runs c (semWaitWord barS 31#32 >>= fun _ => r) Q) := by
  simp only [semWaitWord, Prog.lift, Prog.bind_op, Prog.bind_ret, Prog.pure_eq_ret]
  iintro ⟨#HR, #Hlev, Hc, HO, Hat⟩ Hk
  iapply (Rounds.wp_wait_rest_token 𝒱₀ ER (Rd m ρ) (c : Thread nD τ) none (κ := K (c, kBar))
      (wpE_semWait_eq 𝒱₀ (c : Thread nD τ) none Set.univ) (Set.mem_univ _) () (O := O) (W := W) (R := 0) (m := 0) (T := ∅)
      (by rw [expect_reg]; decide)) $$ [Hc HO Hat]
  · isplitr; · iapply (inv_at m ρ K (c, kBar)); iexact HR
    isplitl [Hc]; · iexact Hc
    isplitl [HO]; · iexact HO
    isplitr; · iapply (mayWait c (.reg barS) O (le_of_eq (lv_bar c)) hO); iexact Hlev
    iexact Hat
  iintro ⟨HO, Hat, -, Hpay⟩
  ihave Hp := (Entails.of_eq (rest_bar m ρ c)) $$ Hpay
  iapply Hk
  isplitl [HO]; · iexists _; iexact HO
  isplitl [Hat] <;> iassumption

/-! ## The acknowledgements -/

/-- What the acknowledgement of device `j` takes: the duty's token, unless `j` is this device. -/
def ackRes (j : Fin 32) : sProp 𝕄 := if c = j then iprop(emp) else dutyTok ER (ackCell j) 0 c

/-- The listed acknowledgements pay their units. -/
theorem runs_acks {Q : PUnit → sProp 𝕄} (js : List (Fin 32)) (r : PG F) (O : CellTallies nD τ sig Unit) (W : Waits sig Unit) :
    iprop(records m ρ K ∗ owes (c : Thread nD τ) (O + oweAck c js) W ∗ bigSepL js (ackRes (F := F) c))
      ⊢ iprop((owes (c : Thread nD τ) O W -∗ runs c r Q) -∗ runs c (acks c js r) Q) := by
  induction js with
  | nil =>
    iintro ⟨#HR, HO, -⟩ Hk
    iapply Hk
    rw [show O + oweAck c [] = O from by simp [oweAck]]
    iexact HO
  | cons j js ih =>
    rw [bigSepL_cons']
    show _ ⊢ iprop(_ -∗ runs c (if c = j then acks c js r else semSignalWord (j : Dev nD) ackS 1#32 >>= fun _ => acks c js r) Q)
    by_cases h : c = j
    · rw [if_pos h, show O + oweAck c (j :: js) = O + oweAck c js from by
        unfold oweAck; rw [List.map_cons, List.sum_cons, if_pos h, zero_add]]
      iintro ⟨#HR, HO, -, Hjs⟩ Hk
      iapply ih $$ [HO Hjs]
      · isplitr; · iexact HR
        isplitl [HO] <;> iassumption
      iexact Hk
    · rw [if_neg h, show O + oweAck c (j :: js) = (O + oweAck c js) + tallyAt (ackCell j) () 1 from by
        unfold oweAck; rw [List.map_cons, List.sum_cons, if_neg h, add_comm (tallyAt _ _ _), ← add_assoc]]
      simp only [semSignalWord, Prog.lift, Prog.bind_op, Prog.bind_ret, Prog.pure_eq_ret]
      rw [show ackRes (F := F) c j = dutyTok ER (ackCell j) 0 c from if_neg h]
      iintro ⟨#HR, HO, Ht, Hjs⟩ Hk
      iapply (Rounds.wp_signal 𝒱₀ ER (Rd m ρ) (c : Thread nD τ) none (dst := ((j : Dev nD) : Thread nD τ)) (κ := K (j, kAck))
        (d := c) (by rw [duties_reg]; exact Finset.mem_erase.mpr ⟨h, Finset.mem_univ _⟩)
        ((amount_reg m ρ j ackS c).trans (by decide)) () (O + oweAck c js) rfl) $$ [HO Ht]
      · isplitr; · iapply (inv_at m ρ K (j, kAck)); iexact HR
        isplitl [HO]; · iexact HO
        isplitl [Ht]; · iexact Ht
        isplitr; · rw [payload_ack]; iempintro
        iapply (reached_at m ρ K (j, kAck)); iexact HR
      iintro HO
      iapply ih $$ [HO Hjs]
      · isplitr; · iexact HR
        isplitl [HO] <;> iassumption
      iexact Hk

/-- The wait for the thirty-one others' acknowledgements. -/
theorem runs_ackWait {Q : PUnit → sProp 𝕄} (r : PG F) (W : Waits sig Unit) :
    iprop(records m ρ K ∗ cred (tallyAt (ackCell c) () 31) ∗ owes (c : Thread nD τ) 0 W ∗ atPos ER (ackCell c) 0 ∅ 0)
      ⊢ iprop((((∃ W, owes (c : Thread nD τ) 0 W) ∗ atPos ER (ackCell c) 1 ∅ 0) -∗ runs c r Q)
          -∗ runs c (semWaitWord ackS 31#32 >>= fun _ => r) Q) := by
  simp only [semWaitWord, Prog.lift, Prog.bind_op, Prog.bind_ret, Prog.pure_eq_ret]
  iintro ⟨#HR, Hc, HO, Hat⟩ Hk
  iapply (Rounds.wp_wait_rest_token 𝒱₀ ER (Rd m ρ) (c : Thread nD τ) none (κ := K (c, kAck))
      (wpE_semWait_eq 𝒱₀ (c : Thread nD τ) none Set.univ) (Set.mem_univ _) () (O := 0) (W := W) (R := 0) (m := 0) (T := ∅)
      (by rw [expect_reg]; decide)) $$ [Hc HO Hat]
  · isplitr; · iapply (inv_at m ρ K (c, kAck)); iexact HR
    isplitl [Hc]; · iexact Hc
    isplitl [HO]; · iexact HO
    isplitr; · rw [MayWait_zero]; iempintro
    iexact Hat
  iintro ⟨HO, Hat, -, -⟩
  iapply Hk
  isplitl [HO]; · iexists _; iexact HO
  iexact Hat

/-! ## The sends -/

/-- What the send to the device `k` places on takes: the rows, the slot there, and both duties' tokens. -/
def sendRes (k : Fin 32) : sProp 𝕄 :=
  iprop(rowsPts m ρ c (c + k) ∗ anySlot (c + k) c ∗ dutyTok ER (sendCell c k) 0 0 ∗ dutyTok ER (recvCell (c + k) c) 0 0)

/-- A slot rewritten with the rows another device sent holds that device's block. -/
theorem landed (k : Fin 32) (fd : Buf (Elt F) ((slotM c).view.loc ((c + k : Dev nD) : Thread nD τ))) :
    pts (c + k) (slotM c) ((slotM c).view.write (Elt F) fd ((rowsM (c + k)).view.read (Elt F) (xb m ρ c)) Finset.univ)
      ⊢ gotSlot (F := F) m ρ (c + k) c := by
  unfold gotSlot
  iintro H
  iexists _
  isplitr [H]
  rotate_left
  · iexact H
  · ipureintro; exact View.read_write_univ _ _

/-- The listed sends are under way: each leaves the credit of its send cell. -/
theorem runs_sends {Q : PUnit → sProp 𝕄} (ks : List (Fin 32)) (r : PG F) (O : CellTallies nD τ sig Unit) (W : Waits sig Unit) :
    iprop(records m ρ K ∗ owes (c : Thread nD τ) (O + oweRecv c ks) W ∗ bigSepL ks (sendRes (F := F) m ρ c))
      ⊢ iprop(((owes (c : Thread nD τ) O W ∗ bigSepL ks fun k => cred (tallyAt (sendCell c k) () NB)) -∗ runs c r Q) -∗ runs c (sends c ks r) Q) := by
  induction ks generalizing Q with
  | nil =>
    iintro ⟨#HR, HO, H⟩ Hk
    iapply Hk
    rw [show O + oweRecv c [] = O from by simp [oweRecv]]
    isplitl [HO]; · iexact HO
    iexact H
  | cons k ks ih =>
    rw [show O + oweRecv c (k :: ks) = (O + oweRecv c ks) + tallyAt (recvCell (c + k) c) () NB from by
      unfold oweRecv; rw [List.map_cons, List.sum_cons, add_comm (tallyAt _ _ _), ← add_assoc], bigSepL_cons', bigSepL_cons']
    iintro ⟨#HR, HO, Hk0, Hks⟩ Hk
    unfold sendRes anySlot rowsPts
    icases Hk0 with ⟨Hrows, ⟨%fd, Hslot⟩, Ht1, Ht2⟩
    iapply (Rounds.wp_send_pointsTo 𝒱₀ ER (Rd m ρ) (c : Thread nD τ) none (c' := ((c + k : Dev nD) : Thread nD τ))
      (κ₁ := K (c, kSend k)) (κ₂ := K (c + k, kRecv c))
      (r₁ := 0) (r₂ := 0) (d₁ := 0) (d₂ := 0) (fd := fd) (fs := xb m ρ c) (q := fullShare)
      (mem_dma m ρ c (sendS k)) (mem_dma m ρ (c + k) (recvS c))
      () () NB rfl ((amount_dma m ρ c (sendS k) 0).trans (amt_send k)) ((amount_dma m ρ (c + k) (recvS c) 0).trans (amt_recv c))
      (O + oweRecv c ks) rfl (W := W)
      (by rw [payload_dma, pay_send]; exact BI.Entails.refl _)
      (by rw [payload_dma, pay_recv]; exact landed m ρ c k fd)) $$ [Hrows Hslot HO Ht1 Ht2]
    · isplitr; · iapply (inv_at m ρ K (c, kSend k)); iexact HR
      isplitr; · iapply (inv_at m ρ K (c + k, kRecv c)); iexact HR
      isplitl [Hrows]; · iexact Hrows
      isplitl [Hslot]; · iexact Hslot
      isplitl [HO]; · iexact HO
      isplitl [Ht1]; · iexact Ht1
      isplitr; · iapply (reached_at m ρ K (c, kSend k)); iexact HR
      isplitl [Ht2]; · iexact Ht2
      iapply (reached_at m ρ K (c + k, kRecv c)); iexact HR
    iintro ⟨Hcr, HO⟩
    iapply ih $$ [HO Hks]
    · isplitr; · iexact HR
      isplitl [HO]; · iexact HO
      unfold sendRes anySlot rowsPts; iexact Hks
    iintro ⟨HO, Hcrs⟩
    iapply Hk
    isplitl [HO]; · iexact HO
    isplitl [Hcr] <;> iassumption

/-- What the wait for the send to the device `k` places on takes. -/
def waitRes (k : Fin 32) : sProp 𝕄 := iprop(cred (tallyAt (sendCell c k) () NB) ∗ atPos ER (sendCell c k) 0 ∅ 0)
/-- What it brings: the rows back, and the send cell past its round. -/
def waitGot (k : Fin 32) : sProp 𝕄 := iprop(rowsPts m ρ c (c + k) ∗ atPos ER (sendCell c k) 1 ∅ 0)

/-- The listed sends have left: their rows are back. -/
theorem runs_waits {Q : PUnit → sProp 𝕄} (ks : List (Fin 32)) (r : PG F) :
    iprop(records m ρ K ∗ (∃ W, owes (c : Thread nD τ) 0 W) ∗ bigSepL ks (waitRes (F := F) c))
      ⊢ iprop((((∃ W, owes (c : Thread nD τ) 0 W) ∗ bigSepL ks (waitGot (F := F) m ρ c)) -∗ runs c r Q) -∗ runs c (waits c ks r) Q) := by
  induction ks generalizing Q with
  | nil =>
    iintro ⟨#HR, HO, H⟩ Hk
    iapply Hk
    isplitl [HO]; · iexact HO
    iexact H
  | cons k ks ih =>
    rw [bigSepL_cons', bigSepL_cons']
    iintro ⟨#HR, ⟨%W, HO⟩, Hk0, Hks⟩ Hk
    unfold waitRes
    icases Hk0 with ⟨Hc, Hat⟩
    iapply (Rounds.wp_wait_rest_token 𝒱₀ ER (Rd m ρ) (c : Thread nD τ) none (κ := K (c, kSend k))
      (wpE_waitDma2_eq 𝒱₀ (c : Thread nD τ) none Set.univ) (Set.mem_univ _) () (O := 0) (W := W) (R := 0) (m := 0) (T := ∅)
      (by rw [Nat.zero_add, expect_dma, amt_send])) $$ [Hc HO Hat]
    · isplitr; · iapply (inv_at m ρ K (c, kSend k)); iexact HR
      isplitl [Hc]; · iexact Hc
      isplitl [HO]; · iexact HO
      isplitr; · rw [MayWait_zero]; iempintro
      iexact Hat
    iintro ⟨HO, Hat, -, Hpay⟩
    ihave Hp := (Entails.of_eq ((rest_dma m ρ c (sendS k)).trans (pay_send m ρ c k))) $$ Hpay
    iapply ih $$ [HO Hks]
    · isplitr; · iexact HR
      isplitl [HO]; · iexists _; iexact HO
      unfold waitRes; iexact Hks
    iintro ⟨HO, Hgot⟩
    iapply Hk
    isplitl [HO]; · iexact HO
    isplitl [Hp Hat]
    · unfold waitGot; isplitl [Hp] <;> iassumption
    iexact Hgot

/-! ## The weights -/

/-- What the copy of quarter `q` takes. -/
def fetchRes (q : Fin 4) : sProp 𝕄 := iprop(wSrc m ρ c q ∗ anyF c q ∗ dutyTok ER (wCell c q) 0 0)

/-- The listed quarters are under way. -/
theorem runs_fetches {Q : PUnit → sProp 𝕄} (qs : List (Fin 4)) (r : PG F) :
    iprop(records m ρ K ∗ bigSepL qs (fetchRes (F := F) m ρ c))
      ⊢ iprop(((bigSepL qs fun q => cred (tallyAt (wCell c q) () NW)) -∗ runs c r Q) -∗ runs c (fetches qs r) Q) := by
  induction qs generalizing Q with
  | nil =>
    iintro ⟨#HR, H⟩ Hk
    iapply Hk; iexact H
  | cons q qs ih =>
    rw [bigSepL_cons', bigSepL_cons']
    iintro ⟨#HR, Hq, Hqs⟩ Hk
    unfold fetchRes anyF wSrc
    icases Hq with ⟨Hsrc, ⟨%fd, Hdst⟩, Ht⟩
    iapply (Rounds.wp_copy_pointsTo 𝒱₀ ER (Rd m ρ) (c : Thread nD τ) none (κ := K (c, kW q)) (r := 0) (d := 0) (fd := fd) (fs := wv m ρ c) (q := fullShare)
      (mem_dma m ρ c (wS q)) () NW rfl ((amount_dma m ρ c (wS q) 0).trans (amt_w q))
      (by
        rw [payload_dma, pay_w]; unfold gotF wSrc
        iintro ⟨H1, H2⟩
        isplitl [H1]
        · iexists _
          isplitr [H1]
          rotate_left
          · iexact H1
          · ipureintro; exact View.read_write_univ _ _
        iexact H2)) $$ [Hsrc Hdst Ht]
    · isplitr; · iapply (inv_at m ρ K (c, kW q)); iexact HR
      isplitl [Hsrc]; · iexact Hsrc
      isplitl [Hdst]; · iexact Hdst
      isplitl [Ht]; · iexact Ht
      iapply (reached_at m ρ K (c, kW q)); iexact HR
    iintro Hcr
    iapply ih $$ [Hqs]
    · isplitr; · iexact HR
      unfold fetchRes anyF wSrc; iexact Hqs
    iintro Hcrs
    iapply Hk
    isplitl [Hcr] <;> iassumption

end Moves

end Cert.KernelIdeal.Run
-- ==== Proof.Run.Contents.lean ====
/-
# The buffers cut into blocks, and what blocks read

The stack is its thirty-two slots, the cast argument its thirty-two blocks of rows, the weights their four quarters.
The assembled block is known column block by column block: `Filled`.
-/
module

public import proofs.«01_k».proof.Proof.Run.Protocol

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The sets -/

theorem slot_set (j : Fin 32) : (slotM j).view.set = (slotRect j).set := (View.set_reshape _ _).trans (View.set_slice_whole cc0_scratch1 (slotRect j))
theorem rows_set (j : Fin 32) : (rowsM j).view.set = (rowsRect j).set := View.set_slice_whole cc0_scratch0 (rowsRect j)
theorem fQ_set (q : Fin 4) : (fQ q).view.set = (wRect q).set := View.set_slice_whole cc0_scratch3 (wRect q)
theorem wQ_set (q : Fin 4) : (wQ q).view.set = (wRect q).set := View.set_slice_whole main_arg1 (wRect q)

theorem val_lt {a b : ℕ} (i : Fin a) (h : a = b) : i.val < b := h ▸ i.isLt

theorem slots_disjoint (j j' : Fin 32) (h : j ≠ j') : Disjoint (slotRect j).set (slotRect j').set :=
  Rect.unit_disjoint 0 (by
    have h' : j.val ≠ j'.val := fun e => h (Fin.ext e)
    show j.val + 1 ≤ j'.val ∨ j'.val + 1 ≤ j.val
    omega)
theorem rows_disjoint (j j' : Fin 32) (h : j ≠ j') : Disjoint (rowsRect j).set (rowsRect j').set :=
  Rect.unit_disjoint 0 (by
    have h' : j.val ≠ j'.val := fun e => h (Fin.ext e)
    show 64 * j.val + 64 ≤ 64 * j'.val ∨ 64 * j'.val + 64 ≤ 64 * j.val
    omega)
theorem cols_disjoint (j j' : Fin 32) (h : j ≠ j') : Disjoint (colsRect j).set (colsRect j').set :=
  Rect.unit_disjoint 1 (by
    have h' : j.val ≠ j'.val := fun e => h (Fin.ext e)
    show 64 * j.val + 64 ≤ 64 * j'.val ∨ 64 * j'.val + 64 ≤ 64 * j.val
    omega)
theorem quarters_disjoint (q q' : Fin 4) (h : q ≠ q') : Disjoint (wRect q).set (wRect q').set :=
  Rect.unit_disjoint 0 (by
    have h' : q.val ≠ q'.val := fun e => h (Fin.ext e)
    show 512 * q.val + 512 ≤ 512 * q'.val ∨ 512 * q'.val + 512 ≤ 512 * q.val
    omega)

theorem slots_cover : (Finset.univ.biUnion fun j => (slotRect j).set) = Finset.univ := by
  ext i
  have h0 : (i 0).val < 32 := (i 0).isLt
  have h1 : (i 1).val < 64 := (i 1).isLt
  have h2 : (i 2).val < 64 := (i 2).isLt
  simp only [Finset.mem_biUnion, Finset.mem_univ, true_and, iff_true]
  refine ⟨⟨(i 0).val, h0⟩, Rect.mem_set_unit.mpr fun a => ?_⟩
  match a with
  | ⟨0, _⟩ => show (i 0).val ≤ (i 0).val ∧ (i 0).val < (i 0).val + 1; omega
  | ⟨1, _⟩ => show 0 ≤ (i 1).val ∧ (i 1).val < 0 + 64; omega
  | ⟨2, _⟩ => show 0 ≤ (i 2).val ∧ (i 2).val < 0 + 64; omega
theorem rows_cover : (Finset.univ.biUnion fun j => (rowsRect j).set) = Finset.univ := by
  ext i
  have h0 : (i 0).val < 2048 := (i 0).isLt
  have h1 : (i 1).val < 64 := (i 1).isLt
  simp only [Finset.mem_biUnion, Finset.mem_univ, true_and, iff_true]
  refine ⟨⟨(i 0).val / 64, by omega⟩, Rect.mem_set_unit.mpr fun a => ?_⟩
  match a with
  | ⟨0, _⟩ => show 64 * ((i 0).val / 64) ≤ (i 0).val ∧ (i 0).val < 64 * ((i 0).val / 64) + 64; omega
  | ⟨1, _⟩ => show 0 ≤ (i 1).val ∧ (i 1).val < 0 + 64; omega
theorem quarters_cover : (Finset.univ.biUnion fun q => (wRect q).set) = Finset.univ := by
  ext i
  have h0 : (i 0).val < 2048 := (i 0).isLt
  have h1 : (i 1).val < 2048 := (i 1).isLt
  simp only [Finset.mem_biUnion, Finset.mem_univ, true_and, iff_true]
  refine ⟨⟨(i 0).val / 512, by omega⟩, Rect.mem_set_unit.mpr fun a => ?_⟩
  match a with
  | ⟨0, _⟩ => show 512 * ((i 0).val / 512) ≤ (i 0).val ∧ (i 0).val < 512 * ((i 0).val / 512) + 512; omega
  | ⟨1, _⟩ => show 0 ≤ (i 1).val ∧ (i 1).val < 0 + 2048; omega

/-! ## Splitting and joining -/

theorem stack_split (c : Dev nD) (f : Buf (Elt F) ((c : Thread nD τ).loc cc0_scratch1)) :
    (((c : Thread nD τ).loc cc0_scratch1) ↦{fullShare} f : sProp 𝕄) = bigSep Finset.univ fun j => pts c (slotM j) f := by
  rw [← slots_cover, pointsTo_biUnion Finset.univ _ fun j _ j' _ h => slots_disjoint j j' h]
  exact bigSep_congr fun j _ => by unfold pts; rw [slot_set]
theorem cast_split (c : Dev nD) (f : Buf (Elt F) ((c : Thread nD τ).loc cc0_scratch0)) :
    (((c : Thread nD τ).loc cc0_scratch0) ↦{fullShare} f : sProp 𝕄) = bigSep Finset.univ fun j => pts c (rowsM j) f := by
  rw [← rows_cover, pointsTo_biUnion Finset.univ _ fun j _ j' _ h => rows_disjoint j j' h]
  exact bigSep_congr fun j _ => by unfold pts; rw [rows_set]
theorem place_split (c : Dev nD) (f : Buf (Elt F) ((c : Thread nD τ).loc cc0_scratch3)) :
    (((c : Thread nD τ).loc cc0_scratch3) ↦{fullShare} f : sProp 𝕄) = bigSep Finset.univ fun q => pts c (fQ q) f := by
  rw [← quarters_cover, pointsTo_biUnion Finset.univ _ fun j _ j' _ h => quarters_disjoint j j' h]
  exact bigSep_congr fun j _ => by unfold pts; rw [fQ_set]
theorem weights_split (c : Dev nD) (f : Buf (Elt F) ((c : Thread nD τ).loc main_arg1)) :
    (((c : Thread nD τ).loc main_arg1) ↦{fullShare} f : sProp 𝕄) = bigSep Finset.univ fun q => pts c (wQ q) f := by
  rw [← quarters_cover, pointsTo_biUnion Finset.univ _ fun j _ j' _ h => quarters_disjoint j j' h]
  exact bigSep_congr fun j _ => by unfold pts; rw [wQ_set]

/-- The slots, each holding anything, are the stack holding something. -/
theorem stack_join (c : Dev nD) : (bigSep Finset.univ fun j => anySlot (F := F) c j) ⊢ (iprop(∃ f, ((c : Thread nD τ).loc cc0_scratch1) ↦{fullShare} f) : sProp 𝕄) := by
  unfold anySlot
  iintro H
  ihave H' := (BI.bigSep_exists_pi Finset.univ (fun (j : Fin 32) (f : Buf (Elt F) ((c : Thread nD τ).loc cc0_scratch1)) => (pts c (slotM j) f : sProp 𝕄))) $$ H
  icases H' with ⟨%fs, H⟩
  ihave H2 := (pointsTo_biUnion_join (ℓ := (c : Thread nD τ).loc cc0_scratch1) (q := fullShare) Finset.univ (fun j => (slotM j).view.set) fs (fs 0)
    (fun j _ j' _ h => by rw [slot_set, slot_set]; exact slots_disjoint j j' h)) $$ H
  icases H2 with ⟨%g, -, H⟩
  iexists g
  iapply (Entails.of_eq (congrArg (fun I : Finset (Idx ((c : Thread nD τ).loc cc0_scratch1)) => (((c : Thread nD τ).loc cc0_scratch1) ↦[I]{fullShare} g : sProp 𝕄))
    ((Finset.biUnion_congr rfl fun j _ => slot_set j).trans slots_cover)))
  iexact H
/-- The quarters of the weights' place, each holding anything, are the place holding something. -/
theorem place_join (c : Dev nD) : (bigSep Finset.univ fun q => anyF (F := F) c q) ⊢ (iprop(∃ f, ((c : Thread nD τ).loc cc0_scratch3) ↦{fullShare} f) : sProp 𝕄) := by
  unfold anyF
  iintro H
  ihave H' := (BI.bigSep_exists_pi Finset.univ (fun (j : Fin 4) (f : Buf (Elt F) ((c : Thread nD τ).loc cc0_scratch3)) => (pts c (fQ j) f : sProp 𝕄))) $$ H
  icases H' with ⟨%fs, H⟩
  ihave H2 := (pointsTo_biUnion_join (ℓ := (c : Thread nD τ).loc cc0_scratch3) (q := fullShare) Finset.univ (fun j => (fQ j).view.set) fs (fs 0)
    (fun j _ j' _ h => by rw [fQ_set, fQ_set]; exact quarters_disjoint j j' h)) $$ H
  icases H2 with ⟨%g, -, H⟩
  iexists g
  iapply (Entails.of_eq (congrArg (fun I : Finset (Idx ((c : Thread nD τ).loc cc0_scratch3)) => (((c : Thread nD τ).loc cc0_scratch3) ↦[I]{fullShare} g : sProp 𝕄))
    ((Finset.biUnion_congr rfl fun j _ => fQ_set j).trans quarters_cover)))
  iexact H

/-! ## Reads and writes of whole buffers -/

theorem hz : (![0, 0] : Fin 2 → Nat) = fun _ => 0 := funext fun a => by fin_cases a <;> rfl
theorem read_x (f : (cc0_stg0_0 : Ref sig .tc).ty.Contents (Elt F)) : xM.view.readAt (Elt F) allX.toLoadRect f = f :=
  Memref.readAt_unit_zero (Elt F) cc0_stg0_0 hz _ f
theorem read_a (f : (cc0_scratch4 : Ref sig .tc).ty.Contents (Elt F)) : aM.view.readAt (Elt F) allY.toLoadRect f = f :=
  Memref.readAt_unit_zero (Elt F) cc0_scratch4 hz _ f
theorem write_b (f w : (cc0_scratch0 : Ref sig .tc).ty.Contents (Elt F)) :
    (bM.access allX : View sig .tc _ _ _).write (Elt F) f w Finset.univ = w := Memref.write_access_unit_zero_univ (Elt F) cc0_scratch0 hz _ f w
theorem write_a (f w : (cc0_scratch4 : Ref sig .tc).ty.Contents (Elt F)) :
    (aM.access allY : View sig .tc _ _ _).write (Elt F) f w Finset.univ = w := Memref.write_access_unit_zero_univ (Elt F) cc0_scratch4 hz _ f w
theorem write_y (f w : (cc0_scratch5 : Ref sig .tc).ty.Contents (Elt F)) :
    (yM.access allY : View sig .tc _ _ _).write (Elt F) f w Finset.univ = w := Memref.write_access_unit_zero_univ (Elt F) cc0_scratch5 hz _ f w

/-! ## Slots and columns -/

/-- A slot read through the stack and flattened is the slot read as a block. -/
theorem pay2_slot (j : Fin 32) (f : (cc0_scratch1 : Ref sig .tc).ty.Contents (Elt F)) :
    k0_pay2 (sM.view.readAt (Elt F) (slotRect j).toLoadRect f) = (slotM j).view.read (Elt F) f := by
  unfold k0_pay2
  funext x
  simp only [shapeCast, Shape.reshapeEquiv_self]
  rfl

/-- The columns of each slot in `S` hold that slot's block. -/
def Filled (c : Dev nD) (S : Fin 32 → Prop) (f : (cc0_scratch2 : Ref sig .tc).ty.Contents (Elt F)) : Prop :=
  ∀ j, S j → (gM.access (colsRect j) : View sig .tc _ _ _).read (Elt F) f = blk m ρ j c

theorem Filled.none (c : Dev nD) (f : (cc0_scratch2 : Ref sig .tc).ty.Contents (Elt F)) : Filled m ρ c (fun _ => False) f := fun _ h => h.elim

variable {m ρ} in
/-- Storing slot `j`'s block at its columns fills them and keeps the others. -/
theorem Filled.store {c : Dev nD} {S : Fin 32 → Prop} {f : (cc0_scratch2 : Ref sig .tc).ty.Contents (Elt F)} (h : Filled m ρ c S f) (j : Fin 32) :
    Filled m ρ c (fun j' => S j' ∨ j' = j) ((gM.access (colsRect j) : View sig .tc _ _ _).write (Elt F) f (blk m ρ j c) Finset.univ) := by
  intro j' hj'
  by_cases he : j' = j
  · subst he; exact View.read_write_univ _ _
  · rw [← h j' (hj'.resolve_right he)]
    refine View.read_slice_write_slice_of_disjoint (v := gM.view) (colsRect j') (colsRect j) f (blk m ρ j c) Finset.univ ?_
    show Disjoint ((View.whole cc0_scratch2).slice (colsRect j')).set ((View.whole cc0_scratch2).slice (colsRect j)).set
    rw [View.set_slice_whole, View.set_slice_whole]
    exact cols_disjoint j' j he

variable {m ρ} in
theorem Filled.mono {c : Dev nD} {S T : Fin 32 → Prop} {f : (cc0_scratch2 : Ref sig .tc).ty.Contents (Elt F)} (h : Filled m ρ c S f) (hT : ∀ j, T j → S j) :
    Filled m ρ c T f := fun j hj => h j (hT j hj)

variable {m ρ} in
/-- Where the eight slots of quarter `q` are filled, its columns read what `xq` says. -/
theorem Filled.read {c : Dev nD} {S : Fin 32 → Prop} {f : (cc0_scratch2 : Ref sig .tc).ty.Contents (Elt F)} (h : Filled m ρ c S f) (q : Fin 4)
    (hS : ∀ j : Fin 32, j.val / 8 = q.val → S j) : gM.view.readAt (Elt F) (xRect q).toLoadRect f = xq m ρ c q := by
  funext i
  have h0 : (i 0).val < 64 := (i 0).isLt
  have h1 : (i 1).val < 512 := (i 1).isLt
  have hq := q.isLt
  unfold xq
  rw [← h ⟨(512 * q.val + (i 1).val) / 64, by omega⟩ (hS _ (by show (512 * q.val + (i 1).val) / 64 / 8 = q.val; omega))]
  show f _ = f _
  refine congrArg f (funext fun a => Fin.ext ?_)
  match a with
  | ⟨0, _⟩ => rfl
  | ⟨1, _⟩ =>
    show 512 * q.val + 1 * (i 1).val = 64 * ((512 * q.val + (i 1).val) / 64) + 1 * ((i 1).val % 64)
    omega

end Cert.KernelIdeal.Run
-- ==== Proof.Run.Quarters.lean ====
/-
# The quarters: slots taken, peers acknowledged, products accumulated
-/
module

public import proofs.«01_k».proof.Proof.Run.Moves
public import proofs.«01_k».proof.Proof.Run.Contents

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Quarters
variable (K : Dev nD × CK → ℕ) (c : Dev nD)

/-- A buffer of device `c`, whole, holding `f`. -/
abbrev full (b : Ref sig .tc) (f : Buf (Elt F) ((c : Thread nD τ).loc b)) : sProp 𝕄 := ((c : Thread nD τ).loc b) ↦{fullShare} f

/-- The assembled block, filled at the slots in `S`. -/
def filled (S : Fin 32 → Prop) : sProp 𝕄 := iprop(∃ f, ⌜Filled m ρ c S f⌝ ∗ full c cc0_scratch2 f)

/-- What device `c` owes is `O`. -/
abbrev owing (O : CellTallies nD τ sig Unit) : sProp 𝕄 := iprop(∃ W, owes (c : Thread nD τ) O W)

/-- What taking slot `j` takes. -/
def takeRes (j : Fin 32) : sProp 𝕄 := iprop(cred (tallyAt (recvCell c j) () NB) ∗ atPos ER (recvCell c j) 0 ∅ 0)
/-- What it brings: the slot, and the receive cell past its round. -/
def takeGot (j : Fin 32) : sProp 𝕄 := iprop(anySlot c j ∗ atPos ER (recvCell c j) 1 ∅ 0)

/-- The listed slots are taken: their columns are filled. -/
theorem runs_takes {Q : PUnit → sProp 𝕄} (js : List (Fin 32)) (r : PG F) (O : CellTallies nD τ sig Unit) (hO : Above 2 O) (S : Fin 32 → Prop) :
    iprop(records m ρ K ∗ levAts L lv ∗ owing (F := F) c O ∗ filled m ρ c S ∗ bigSepL js (takeRes (F := F) c))
      ⊢ iprop(((owing (F := F) c O ∗ filled m ρ c (fun j => S j ∨ j ∈ js) ∗ bigSepL js (takeGot (F := F) c)) -∗ runs c r Q)
          -∗ runs c (takes js r) Q) := by
  induction js generalizing Q S with
  | nil =>
    iintro ⟨#HR, #Hlev, HO, Hf, H⟩ Hk
    iapply Hk
    rw [show (fun j => S j ∨ j ∈ ([] : List (Fin 32))) = S from funext fun j => by simp]
    isplitl [HO]; · iexact HO
    isplitl [Hf]; · iexact Hf
    iexact H
  | cons j js ih =>
    rw [bigSepL_cons', bigSepL_cons']
    iintro ⟨#HR, #Hlev, ⟨%W, HO⟩, Hf, Hj, Hjs⟩ Hk
    unfold takeRes filled
    icases Hj with ⟨Hc, Hat⟩
    icases Hf with ⟨%f, %hf, Hf⟩
    iapply (Rounds.wp_wait_rest_token 𝒱₀ ER (Rd m ρ) (c : Thread nD τ) none (κ := K (c, kRecv j))
      (wpE_waitDma2_eq 𝒱₀ (c : Thread nD τ) none Set.univ) (Set.mem_univ _) () (O := O) (W := W) (R := 0) (m := 0) (T := ∅)
      (by rw [Nat.zero_add, expect_dma, amt_recv])) $$ [Hc HO Hat]
    · isplitr; · iapply (inv_at m ρ K (c, kRecv j)); iexact HR
      isplitl [Hc]; · iexact Hc
      isplitl [HO]; · iexact HO
      isplitr; · iapply (mayWait c (.dma (recvS j)) O (le_of_eq (lv_recv c j)) hO); iexact Hlev
      iexact Hat
    iintro ⟨HO, Hat, -, Hpay⟩
    ihave Hp := (Entails.of_eq ((rest_dma m ρ c (recvS j)).trans (pay_recv m ρ c j))) $$ Hpay
    unfold gotSlot
    icases Hp with ⟨%g, %hg, Hs⟩
    iapply (wp_load 𝒱₀ (c : Thread nD τ) none Set.univ (m := sM) (S := (slotM j).view.set)
      (by rw [slot_set]; exact (Finset.map_eq_image _ _ |>.trans Finset.image_id).subset)) $$ Hs
    iintro Hs
    iapply (wp_load 𝒱₀ (c : Thread nD τ) none Set.univ (m := gM) (Finset.subset_univ _)) $$ Hf
    iintro Hf
    iapply (wp_store 𝒱₀ (c : Thread nD τ) none Set.univ (m := gM) (r := colsRect j) (Mk := Finset.univ) (Finset.subset_univ _)) $$ Hf
    iintro Hf
    rw [pay2_slot, hg]
    iapply (ih (fun j' => S j' ∨ j' = j)) $$ [HO Hf Hjs]
    · isplitr; · iexact HR
      isplitr; · iexact Hlev
      isplitl [HO]; · iexists _; iexact HO
      isplitl [Hf]
      · unfold filled
        iexists _
        isplitr [Hf]
        rotate_left
        · iexact Hf
        · ipureintro; exact hf.store j
      unfold takeRes; iexact Hjs
    iintro ⟨HO, Hf, Hgot⟩
    iapply Hk
    isplitl [HO]; · iexact HO
    isplitl [Hf]
    · rw [show (fun j_1 => S j_1 ∨ j_1 ∈ j :: js) = (fun j_1 => (S j_1 ∨ j_1 = j) ∨ j_1 ∈ js) from
        funext fun j' => by rw [List.mem_cons, or_assoc]]
      unfold filled; iexact Hf
    isplitl [Hs Hat]
    · unfold takeGot anySlot
      isplitl [Hs]; · iexists g; iexact Hs
      iexact Hat
    iexact Hgot

/-- What reading quarter `q` takes. -/
def readRes (q : Fin 4) : sProp 𝕄 := iprop(cred (tallyAt (wCell c q) () NW) ∗ atPos ER (wCell c q) 0 ∅ 0)
/-- What it brings: the weights at both places, and the weight cell past its round. -/
def readGot (q : Fin 4) : sProp 𝕄 := iprop(wSrc m ρ c q ∗ anyF c q ∗ atPos ER (wCell c q) 1 ∅ 0)

/-- The quarter is read: the program goes on at its columns and its weights. -/
theorem runs_reads {Q : PUnit → sProp 𝕄} (q : Fin 4) (r : Vec F S64x512 .bf16 → Vec F S512x2048 .f32 → PG F)
    (O : CellTallies nD τ sig Unit) (hO : Above 0 O) (S : Fin 32 → Prop) (hS : ∀ j : Fin 32, j.val / 8 = q.val → S j) :
    iprop(records m ρ K ∗ levAts L lv ∗ owing (F := F) c O ∗ filled m ρ c S ∗ readRes (F := F) c q)
      ⊢ iprop(((owing (F := F) c O ∗ filled m ρ c S ∗ readGot (F := F) m ρ c q) -∗ runs c (r (xq m ρ c q) (wq m ρ c q)) Q)
          -∗ runs c (reads q r) Q) := by
  iintro ⟨#HR, #Hlev, ⟨%W, HO⟩, Hf, Hq⟩ Hk
  unfold readRes filled reads
  icases Hq with ⟨Hc, Hat⟩
  icases Hf with ⟨%f, %hf, Hf⟩
  iapply (Rounds.wp_wait_rest_token 𝒱₀ ER (Rd m ρ) (c : Thread nD τ) none (κ := K (c, kW q))
      (wpE_waitDma2_eq 𝒱₀ (c : Thread nD τ) none Set.univ) (Set.mem_univ _) () (O := O) (W := W) (R := 0) (m := 0) (T := ∅)
      (by rw [Nat.zero_add, expect_dma, amt_w])) $$ [Hc HO Hat]
  · isplitr; · iapply (inv_at m ρ K (c, kW q)); iexact HR
    isplitl [Hc]; · iexact Hc
    isplitl [HO]; · iexact HO
    isplitr; · iapply (mayWait c (.dma (wS q)) O (le_of_eq (lv_low c (wS q) (by rw [wS_val]; omega))) hO); iexact Hlev
    iexact Hat
  iintro ⟨HO, Hat, -, Hpay⟩
  ihave Hp := (Entails.of_eq ((rest_dma m ρ c (wS q)).trans (pay_w m ρ c q))) $$ Hpay
  unfold gotF
  icases Hp with ⟨⟨%g, %hg, Hd⟩, Hsrc⟩
  iapply (wp_load 𝒱₀ (c : Thread nD τ) none Set.univ (m := gM) (Finset.subset_univ _)) $$ Hf
  iintro Hf
  iapply (wp_load 𝒱₀ (c : Thread nD τ) none Set.univ (m := fM) (S := (fQ q).view.set)
    (by rw [fQ_set]; exact (Finset.map_eq_image _ _ |>.trans Finset.image_id).subset)) $$ Hd
  iintro Hd
  rw [hf.read q hS, show fM.view.readAt (Elt F) (wRect q).toLoadRect g = wq m ρ c q from hg]
  iapply Hk
  isplitl [HO]; · iexists _; iexact HO
  isplitl [Hf]
  · iexists f; isplitr [Hf]
    · ipureintro; exact hf
    · iexact Hf
  unfold readGot anyF
  isplitl [Hsrc]; · iexact Hsrc
  isplitl [Hd]; · iexists g; iexact Hd
  iexact Hat

/-- A quarter: its slots taken, their devices acknowledged, its columns and weights read. -/
theorem runs_quarter {Q : PUnit → sProp 𝕄} (q : Fin 4) (js : List (Fin 32)) (hjs : ∀ j : Fin 32, j.val / 8 = q.val → j ∈ js)
    (r : Vec F S64x512 .bf16 → Vec F S512x2048 .f32 → PG F) (O : CellTallies nD τ sig Unit) (hO : Above 2 O) :
    iprop(records m ρ K ∗ levAts L lv ∗ owing (F := F) c (O + oweAck c js) ∗ (∃ f, full c cc0_scratch2 f)
        ∗ bigSepL js (takeRes (F := F) c) ∗ bigSepL js (ackRes (F := F) c) ∗ readRes (F := F) c q)
      ⊢ iprop(((owing (F := F) c O ∗ (∃ f, full c cc0_scratch2 f) ∗ bigSepL js (takeGot (F := F) c) ∗ readGot (F := F) m ρ c q)
            -∗ runs c (r (xq m ρ c q) (wq m ρ c q)) Q)
          -∗ runs c (takes js (acks c js (reads q r))) Q) := by
  iintro ⟨#HR, #Hlev, HO, ⟨%f, Hf⟩, Ht, Ha, Hq⟩ Hk
  iapply (runs_takes m ρ K c js _ (O + oweAck c js) (hO.add (above_ack (by decide) c js)) (fun _ => False)) $$ [HO Hf Ht]
  · isplitr; · iexact HR
    isplitr; · iexact Hlev
    isplitl [HO]; · iexact HO
    isplitl [Hf]
    · unfold filled; iexists f; isplitr [Hf]
      · ipureintro; exact Filled.none m ρ c f
      · iexact Hf
    iexact Ht
  iintro ⟨⟨%W, HO⟩, Hf, Hgot⟩
  iapply (runs_acks m ρ K c js _ O W) $$ [HO Ha]
  · isplitr; · iexact HR
    isplitl [HO] <;> iassumption
  iintro HO
  iapply (runs_reads m ρ K c q r O (fun g u h => ⟨(hO g u h).1, Nat.lt_of_le_of_lt (Nat.zero_le _) (hO g u h).2⟩) _ (fun j h => Or.inr (hjs j h))) $$ [HO Hf Hq]
  · isplitr; · iexact HR
    isplitr; · iexact Hlev
    isplitl [HO]; · iexists W; iexact HO
    isplitl [Hf] <;> iassumption
  iintro ⟨HO, Hf, Hg⟩
  iapply Hk
  isplitl [HO]; · iexact HO
  isplitl [Hf]
  · unfold filled; icases Hf with ⟨%g, -, Hf⟩; iexists g; iexact Hf
  isplitl [Hgot] <;> iassumption

/-- The accumulator read. -/
theorem runs_loadAcc {Q : PUnit → sProp 𝕄} (f : (cc0_scratch4 : Ref sig .tc).ty.Contents (Elt F)) (r : Vec F S64x2048 .f32 → PG F) :
    full c cc0_scratch4 f ⊢ iprop((full c cc0_scratch4 f -∗ runs c (r f) Q) -∗ runs c (loadAcc r) Q) := by
  iintro Hf Hk
  iapply (wp_load 𝒱₀ (c : Thread nD τ) none Set.univ (m := aM) (Finset.subset_univ _)) $$ Hf
  iintro Hf
  rw [read_a]
  iapply Hk; iexact Hf
/-- The accumulator written. -/
theorem runs_storeAcc {Q : PUnit → sProp 𝕄} (f : (cc0_scratch4 : Ref sig .tc).ty.Contents (Elt F)) (v : Vec F S64x2048 .f32) (r : PG F) :
    full c cc0_scratch4 f ⊢ iprop((full c cc0_scratch4 v -∗ runs c r Q) -∗ runs c (storeAcc v r) Q) := by
  iintro Hf Hk
  iapply (wp_store 𝒱₀ (c : Thread nD τ) none Set.univ (m := aM) (r := allY) (Mk := Finset.univ) (Finset.subset_univ _)) $$ Hf
  iintro Hf
  rw [write_a]
  iapply Hk; iexact Hf

/-- What the quarter `q` over the slots `js` takes and leaves. -/
def quarterRes (q : Fin 4) (js : List (Fin 32)) : sProp 𝕄 :=
  iprop(bigSepL js (takeRes (F := F) c) ∗ bigSepL js (ackRes (F := F) c) ∗ readRes (F := F) c q)
def quarterGot (q : Fin 4) (js : List (Fin 32)) : sProp 𝕄 :=
  iprop(bigSepL js (takeGot (F := F) c) ∗ readGot (F := F) m ρ c q)

/-- The four quarters leave the result. -/
theorem runs_quarters {Q : PUnit → sProp 𝕄} (r : PG F) :
    iprop(records m ρ K ∗ levAts L lv ∗ owing (F := F) c (oweLate c) ∗ (∃ f, full c cc0_scratch2 f) ∗ (∃ f, full c cc0_scratch4 f) ∗ (∃ f, full c cc0_scratch5 f)
        ∗ quarterRes (F := F) c 0 js0 ∗ quarterRes (F := F) c 1 js1 ∗ quarterRes (F := F) c 2 js2 ∗ quarterRes (F := F) c 3 js3)
      ⊢ iprop(((owing (F := F) c 0 ∗ (∃ f, full c cc0_scratch2 f) ∗ (∃ f, full c cc0_scratch4 f) ∗ full c cc0_scratch5 (yv m ρ c)
          ∗ quarterGot m ρ c 0 js0 ∗ quarterGot m ρ c 1 js1 ∗ quarterGot m ρ c 2 js2 ∗ quarterGot m ρ c 3 js3) -∗ runs c r Q)
          -∗ runs c (quarters c r) Q) := by
  unfold quarterRes quarterGot oweLate quarters accFirst accNext accLast
  have h3 : Above 2 (0 : CellTallies nD τ sig Unit) := Above.zero 2
  have h2 := h3.add (above_ack (n := 2) (by decide) c js3)
  have h1 := h2.add (above_ack (n := 2) (by decide) c js2)
  have h0 := h1.add (above_ack (n := 2) (by decide) c js1)
  iintro ⟨#HR, #Hlev, HO, Hg, ⟨%fa, Ha⟩, ⟨%fy, Hy⟩, ⟨T0, A0, R0⟩, ⟨T1, A1, R1⟩, ⟨T2, A2, R2⟩, ⟨T3, A3, R3⟩⟩ Hk
  iapply (runs_quarter m ρ K c 0 js0 (by decide) _ _ h0) $$ [HO Hg T0 A0 R0]
  · isplitr; · iexact HR
    isplitr; · iexact Hlev
    isplitl [HO]; · iexact HO
    isplitl [Hg]; · iexact Hg
    isplitl [T0]; · iexact T0
    isplitl [A0] <;> iassumption
  iintro ⟨HO, Hg, T0, R0⟩
  iapply (runs_loadAcc c fa) $$ Ha; iintro Ha
  iapply (runs_storeAcc c fa) $$ Ha; iintro Ha
  rw [show k0_pay10 (xq m ρ c 0) (wq m ρ c 0) = acc1 m ρ c from rfl]
  iapply (runs_quarter m ρ K c 1 js1 (by decide) _ _ h1) $$ [HO Hg T1 A1 R1]
  · isplitr; · iexact HR
    isplitr; · iexact Hlev
    isplitl [HO]; · iexact HO
    isplitl [Hg]; · iexact Hg
    isplitl [T1]; · iexact T1
    isplitl [A1] <;> iassumption
  iintro ⟨HO, Hg, T1, R1⟩
  iapply (runs_loadAcc c (acc1 m ρ c)) $$ Ha; iintro Ha
  iapply (runs_loadAcc c (acc1 m ρ c)) $$ Ha; iintro Ha
  iapply (runs_storeAcc c (acc1 m ρ c)) $$ Ha; iintro Ha
  rw [show k0_pay31 (xq m ρ c 1) (wq m ρ c 1) (acc1 m ρ c) = acc2 m ρ c from rfl]
  iapply (runs_quarter m ρ K c 2 js2 (by decide) _ _ h2) $$ [HO Hg T2 A2 R2]
  · isplitr; · iexact HR
    isplitr; · iexact Hlev
    isplitl [HO]; · iexact HO
    isplitl [Hg]; · iexact Hg
    isplitl [T2]; · iexact T2
    isplitl [A2] <;> iassumption
  iintro ⟨HO, Hg, T2, R2⟩
  iapply (runs_loadAcc c (acc2 m ρ c)) $$ Ha; iintro Ha
  iapply (runs_loadAcc c (acc2 m ρ c)) $$ Ha; iintro Ha
  iapply (runs_storeAcc c (acc2 m ρ c)) $$ Ha; iintro Ha
  rw [show k0_pay31 (xq m ρ c 2) (wq m ρ c 2) (acc2 m ρ c) = acc3 m ρ c from rfl]
  iapply (runs_quarter m ρ K c 3 js3 (by decide) _ _ h3) $$ [HO Hg T3 A3 R3]
  · isplitr; · iexact HR
    isplitr; · iexact Hlev
    isplitl [HO]; · iexact HO
    isplitl [Hg]; · iexact Hg
    isplitl [T3]; · iexact T3
    isplitl [A3] <;> iassumption
  iintro ⟨HO, Hg, T3, R3⟩
  iapply (runs_loadAcc c (acc3 m ρ c)) $$ Ha; iintro Ha
  iapply (wp_load 𝒱₀ (c : Thread nD τ) none Set.univ (m := yM) (Finset.subset_univ _)) $$ Hy
  iintro Hy
  iapply (wp_store 𝒱₀ (c : Thread nD τ) none Set.univ (m := yM) (r := allY) (Mk := Finset.univ) (Finset.subset_univ _)) $$ Hy
  iintro Hy
  rw [write_y, show k0_pay40 (xq m ρ c 3) (wq m ρ c 3) (acc3 m ρ c) = yv m ρ c from rfl]
  iapply Hk
  isplitl [HO]; · iexact HO
  isplitl [Hg]; · iexact Hg
  isplitl [Ha]; · iexists _; iexact Ha
  isplitl [Hy]; · iexact Hy
  isplitl [T0 R0]; · isplitl [T0] <;> iassumption
  isplitl [T1 R1]; · isplitl [T1] <;> iassumption
  isplitl [T2 R2]; · isplitl [T2] <;> iassumption
  isplitl [T3] <;> iassumption

end Quarters

end Cert.KernelIdeal.Run
-- ==== Proof.Run.Body.lean ====
/-
# The body on one device

From what a device starts with to what it ends with: its weights as they were, its result out, every cell closed.
-/
module

public import proofs.«01_k».proof.Proof.Run.Quarters
public import Idealize.ShloMosaic.Lib.Rounds.Family

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families as lists -/

/-- A chain of pairs is the pair of chains. -/
theorem bigSepL_pair {I : Type} (l : List I) (Φ Ψ : I → sProp 𝕄) :
    bigSepL l (fun i => iprop(Φ i ∗ Ψ i)) = iprop(bigSepL l Φ ∗ bigSepL l Ψ) := by
  induction l with
  | nil => exact (equiv_iff.mp emp_sep).symm
  | cons i l ih =>
    rw [bigSepL_cons', bigSepL_cons', bigSepL_cons', ih]
    exact equiv_iff.mp ⟨show iprop((Φ i ∗ Ψ i) ∗ bigSepL l Φ ∗ bigSepL l Ψ) ⊢ iprop((Φ i ∗ bigSepL l Φ) ∗ Ψ i ∗ bigSepL l Ψ) from by
      iintro ⟨⟨H1, H2⟩, H3, H4⟩
      isplitl [H1 H3]
      · isplitl [H1] <;> iassumption
      · isplitl [H2] <;> iassumption, show iprop((Φ i ∗ bigSepL l Φ) ∗ Ψ i ∗ bigSepL l Ψ) ⊢ iprop((Φ i ∗ Ψ i) ∗ bigSepL l Φ ∗ bigSepL l Ψ) from by
      iintro ⟨⟨H1, H3⟩, H2, H4⟩
      isplitl [H1 H2]
      · isplitl [H1] <;> iassumption
      · isplitl [H3] <;> iassumption⟩

/-- Going around from device `c`. -/
def around (c : Fin 32) : Fin 32 ≃ Fin 32 :=
  ⟨fun k => c + k, fun d => d - c, fun k => by revert c k; decide, fun d => by revert c d; decide⟩

theorem bigSep_around (c : Fin 32) (Φ : Fin 32 → sProp 𝕄) : bigSep Finset.univ Φ = bigSepL (0 :: ks31) fun k => Φ (c + k) := by
  rw [bigSep_univ_equiv (around c) Φ, bigSep_univ_eq_bigSepL (0 :: ks31) (by decide) (by decide)]; rfl
theorem bigSep_list (Φ : Fin 32 → sProp 𝕄) : bigSep Finset.univ Φ = bigSepL (0 :: ks31) Φ :=
  bigSep_univ_eq_bigSepL (0 :: ks31) (by decide) (by decide) Φ
theorem bigSep_four (Φ : Fin 4 → sProp 𝕄) : bigSep Finset.univ Φ = bigSepL [0, 1, 2, 3] Φ :=
  bigSep_univ_eq_bigSepL [0, 1, 2, 3] (by decide) (by decide) Φ
theorem four_list (Φ : Fin 4 → sProp 𝕄) : bigSepL [0, 1, 2, 3] Φ = iprop(Φ 0 ∗ Φ 1 ∗ Φ 2 ∗ Φ 3) := rfl
theorem bigSep_eights (Φ : Fin 32 → sProp 𝕄) :
    bigSep Finset.univ Φ = iprop(bigSepL js0 Φ ∗ bigSepL js1 Φ ∗ bigSepL js2 Φ ∗ bigSepL js3 Φ) := by
  rw [← bigSepL_append, ← bigSepL_append, ← bigSepL_append]
  exact bigSep_univ_eq_bigSepL _ (by decide) (by decide) Φ
theorem bigSep_unit (Φ : Unit → sProp 𝕄) : bigSep Finset.univ Φ = Φ () := bigSep_univ_eq_bigSepL [()] (by decide) (by decide) Φ

/-- A family over all the cells of a device, kind by kind. -/
theorem bigSep_cells (Φ : CK → sProp 𝕄) :
    bigSep Finset.univ Φ = iprop(Φ kBar ∗ Φ kAck ∗ Φ kOut ∗ (bigSep Finset.univ fun q => Φ (kW q))
      ∗ (bigSep Finset.univ fun k => Φ (kSend k)) ∗ (bigSep Finset.univ fun j => Φ (kRecv j))) := by
  rw [bigSep_univ_sum, bigSep_univ_sum, bigSep_univ_sum, bigSep_univ_sum, bigSep_univ_sum, bigSep_unit, bigSep_unit, bigSep_unit]
  rfl

/-! ## What a device starts with, and ends with -/

section Body
variable (K : Dev nD × CK → ℕ) (c : Dev nD)

/-- The tokens of the duties device `c` pays: the other devices' barriers; its receive cell on every device; its own
    sends; the other devices' acknowledgements; its weights and its result. -/
def payToks : sProp 𝕄 :=
  iprop((bigSepL ks31 fun k => dutyTok ER (barCell (c + k)) 0 c)
    ∗ (bigSep Finset.univ fun d => dutyTok ER (recvCell d c) 0 0)
    ∗ (bigSep Finset.univ fun k => dutyTok ER (sendCell c k) 0 0)
    ∗ (bigSep Finset.univ fun j => ackRes (F := F) c j)
    ∗ (bigSep Finset.univ fun q => dutyTok ER (wCell c q) 0 0)
    ∗ dutyTok ER (outCell c) 0 0)

/-- The ghost state device `c` starts from. -/
def ghost : sProp 𝕄 :=
  iprop(records m ρ K ∗ (bigSep Finset.univ fun k : CK => atPos ER (kcell (c, k)) 0 ∅ 0) ∗ payToks (F := F) c)

/-- The credits of what the others owe it. -/
def creds : sProp 𝕄 :=
  iprop(cred (tallyAt (barCell c) () 31) ∗ cred (tallyAt (ackCell c) () 31) ∗ bigSep Finset.univ fun j => cred (tallyAt (recvCell c j) () NB))

/-- The scratch buffers, holding anything. -/
def scratch : sProp 𝕄 :=
  iprop((∃ f, full c cc0_scratch0 f) ∗ (∃ f, full c cc0_scratch1 f) ∗ (∃ f, full c cc0_scratch2 f) ∗ (∃ f, full c cc0_scratch3 f)
    ∗ (∃ f, full c cc0_scratch4 f) ∗ (∃ f, full (F := F) c cc0_scratch5 f))

/-- What the body works with besides its ghost state. -/
def goods : sProp 𝕄 :=
  iprop(creds (F := F) c ∗ levAts L lv ∗ full c main_arg1 (wv m ρ c) ∗ (∃ f, full c main_v1 f) ∗ scratch (F := F) c)

/-- What it ends with. -/
def Φ₁ : sProp 𝕄 :=
  iprop(full c main_arg1 (wv m ρ c) ∗ full c main_v1 (yv m ρ c) ∗ scratch (F := F) c
    ∗ bigSep Finset.univ fun k : CK => semVal (kcell (c, k)) 0)

theorem full_pts {sp : Space} {s : Shape} {e : EltTy} (M : Memref sig .tc sp s e) (h : M.view.set = Finset.univ)
    (f : Buf (Elt F) (M.view.loc (c : Thread nD τ))) : pts c M f = (M.view.loc (c : Thread nD τ) ↦{fullShare} f : sProp 𝕄) := by
  unfold pts; rw [h]

/-- The result leaves for memory, the sends and the acknowledgements are in, the result has left. -/
theorem runs_finish {Q : PUnit → sProp 𝕄} :
    iprop(records m ρ K ∗ owing (F := F) c 0 ∗ full c cc0_scratch5 (yv m ρ c) ∗ (∃ f, full c main_v1 f) ∗ dutyTok ER (outCell c) 0 0
        ∗ atPos ER (outCell c) 0 ∅ 0 ∗ bigSepL (0 :: ks31) (waitRes (F := F) c) ∗ cred (tallyAt (ackCell c) () 31) ∗ atPos ER (ackCell c) 0 ∅ 0)
      ⊢ iprop(((owing (F := F) c 0 ∗ full c cc0_scratch5 (yv m ρ c) ∗ full c main_v1 (yv m ρ c) ∗ atPos ER (outCell c) 1 ∅ 0
          ∗ bigSepL (0 :: ks31) (waitGot (F := F) m ρ c) ∗ atPos ER (ackCell c) 1 ∅ 0) -∗ |={Set.univ}=> Q ⟨⟩)
        -∗ runs c (finish c) Q) := by
  unfold finish
  iintro ⟨#HR, HO, Hy, ⟨%fo, Ho⟩, Ht, Hat, Hw, Hc, Ha⟩ Hk
  iapply (Rounds.wp_copy_pointsTo 𝒱₀ ER (Rd m ρ) (c : Thread nD τ) none (κ := K (c, kOut)) (r := 0) (d := 0) (fd := fo) (fs := yv m ρ c) (q := fullShare)
      (src := yM) (dst := oM)
      (mem_dma m ρ c outS) () NO rfl ((amount_dma m ρ c outS 0).trans amt_out)
      (by
        rw [payload_dma, pay_out]; unfold outPay
        rw [show (oM.view.write (Elt F) fo (yM.view.read (Elt F) (yv m ρ c)) Finset.univ) = yv m ρ c from by
          show (View.whole main_v1).write (Elt F) fo ((View.whole cc0_scratch5).read (Elt F) (yv m ρ c)) Finset.univ = _
          rw [View.read_whole]; exact View.write_whole_univ _ _ _])) $$ [Hy Ho Ht]
  · isplitr; · iapply (inv_at m ρ K (c, kOut)); iexact HR
    isplitl [Hy]; · rw [View.set_whole]; iexact Hy
    isplitl [Ho]; · rw [View.set_whole]; iexact Ho
    isplitl [Ht]; · iexact Ht
    iapply (reached_at m ρ K (c, kOut)); iexact HR
  iintro Hcr
  iapply (runs_waits m ρ K c (0 :: ks31) _) $$ [HO Hw]
  · isplitr; · iexact HR
    isplitl [HO] <;> iassumption
  iintro ⟨⟨%W, HO⟩, Hw⟩
  iapply (runs_ackWait m ρ K c _ W) $$ [Hc HO Ha]
  · isplitr; · iexact HR
    isplitl [Hc]; · iexact Hc
    isplitl [HO] <;> iassumption
  iintro ⟨⟨%W', HO⟩, Ha⟩
  iapply (Rounds.wp_wait_rest_token 𝒱₀ ER (Rd m ρ) (c : Thread nD τ) none (κ := K (c, kOut))
      (wpE_waitDma2_eq 𝒱₀ (c : Thread nD τ) none Set.univ) (Set.mem_univ _) () (O := 0) (W := W') (R := 0) (m := 0) (T := ∅)
      (by rw [Nat.zero_add, expect_dma, amt_out])) $$ [Hcr HO Hat]
  · isplitr; · iapply (inv_at m ρ K (c, kOut)); iexact HR
    isplitl [Hcr]; · iexact Hcr
    isplitl [HO]; · iexact HO
    isplitr; · rw [MayWait_zero]; iempintro
    iexact Hat
  iintro ⟨HO, Hat, -, Hpay⟩
  ihave Hp := (Entails.of_eq ((rest_dma m ρ c outS).trans (pay_out m ρ c))) $$ Hpay
  unfold outPay
  icases Hp with ⟨Ho, Hy⟩
  rw [wp_ret]
  iapply Hk
  isplitl [HO]; · iexists _; iexact HO
  isplitl [Hy]; · iapply (Entails.of_eq (full_pts c yM (View.set_whole _) (yv m ρ c))); iexact Hy
  isplitl [Ho]; · iapply (Entails.of_eq (full_pts c oM (View.set_whole _) (yv m ρ c))); iexact Ho
  isplitl [Hat]; · iexact Hat
  isplitl [Hw] <;> iassumption

/-- The cast argument is stored. -/
theorem runs_cast {Q : PUnit → sProp 𝕄} (r : PG F) :
    iprop(full c cc0_stg0_0 (xstg m ρ c) ∗ (∃ f, full c cc0_scratch0 f))
      ⊢ iprop(((full c cc0_stg0_0 (xstg m ρ c) ∗ full c cc0_scratch0 (xb m ρ c)) -∗ runs c r Q) -∗ runs c (cast r) Q) := by
  unfold cast
  iintro ⟨Hx, ⟨%f, Hb⟩⟩ Hk
  iapply (wp_load 𝒱₀ (c : Thread nD τ) none Set.univ (m := xM) (Finset.subset_univ _)) $$ Hx; iintro Hx
  iapply (wp_load 𝒱₀ (c : Thread nD τ) none Set.univ (m := bM) (Finset.subset_univ _)) $$ Hb; iintro Hb
  iapply (wp_store 𝒱₀ (c : Thread nD τ) none Set.univ (m := bM) (r := allX) (Mk := Finset.univ) (Finset.subset_univ _)) $$ Hb; iintro Hb
  rw [read_x, write_b, show k0_pay1 (xstg m ρ c) = xb m ρ c from rfl]
  iapply Hk
  isplitl [Hx] <;> iassumption

/-! ## The resources of each part, member by member -/

theorem sigRes_zip (l : List (Fin 32)) : bigSepL l (sigRes (F := F) c)
    = iprop((bigSepL l fun k => dutyTok ER (barCell (c + k)) 0 c) ∗ bigSepL l fun k => anySlot c (c + k)) :=
  (show bigSepL l (fun k => iprop(dutyTok ER (barCell (c + k)) 0 c ∗ anySlot (F := F) c (c + k))) = _ from bigSepL_pair l _ _)
theorem sendRes_zip (l : List (Fin 32)) : bigSepL l (sendRes m ρ c)
    = iprop((bigSepL l fun k => rowsPts m ρ c (c + k)) ∗ (bigSepL l fun k => anySlot (c + k) c)
        ∗ (bigSepL l fun k => dutyTok ER (sendCell c k) 0 0) ∗ bigSepL l fun k => dutyTok ER (recvCell (c + k) c) 0 0) := by
  rw [← bigSepL_pair, ← bigSepL_pair, ← bigSepL_pair]; rfl
theorem waitRes_zip (l : List (Fin 32)) : bigSepL l (waitRes (F := F) c)
    = iprop((bigSepL l fun k => cred (tallyAt (sendCell c k) () NB)) ∗ bigSepL l fun k => atPos ER (sendCell c k) 0 ∅ 0) :=
  (show bigSepL l (fun k => iprop(cred (tallyAt (sendCell c k) () NB) ∗ atPos ER (sendCell c k) 0 ∅ 0)) = _ from bigSepL_pair l _ _)
theorem waitGot_zip (l : List (Fin 32)) : bigSepL l (waitGot m ρ c)
    = iprop((bigSepL l fun k => rowsPts m ρ c (c + k)) ∗ bigSepL l fun k => atPos ER (sendCell c k) 1 ∅ 0) :=
  (show bigSepL l (fun k => iprop(rowsPts m ρ c (c + k) ∗ atPos ER (sendCell c k) 1 ∅ 0)) = _ from bigSepL_pair l _ _)
theorem fetchRes_zip (l : List (Fin 4)) : bigSepL l (fetchRes m ρ c)
    = iprop((bigSepL l fun q => wSrc m ρ c q) ∗ (bigSepL l fun q => anyF c q) ∗ bigSepL l fun q => dutyTok ER (wCell c q) 0 0) := by
  rw [← bigSepL_pair, ← bigSepL_pair]; rfl
theorem takeRes_zip (l : List (Fin 32)) : bigSepL l (takeRes (F := F) c)
    = iprop((bigSepL l fun j => cred (tallyAt (recvCell c j) () NB)) ∗ bigSepL l fun j => atPos ER (recvCell c j) 0 ∅ 0) :=
  (show bigSepL l (fun j => iprop(cred (tallyAt (recvCell c j) () NB) ∗ atPos ER (recvCell c j) 0 ∅ 0)) = _ from bigSepL_pair l _ _)
theorem takeGot_zip (l : List (Fin 32)) : bigSepL l (takeGot (F := F) c)
    = iprop((bigSepL l fun j => anySlot c j) ∗ bigSepL l fun j => atPos ER (recvCell c j) 1 ∅ 0) :=
  (show bigSepL l (fun j => iprop(anySlot (F := F) c j ∗ atPos ER (recvCell c j) 1 ∅ 0)) = _ from bigSepL_pair l _ _)

theorem plus_zero (c : Fin 32) : c + 0 = c := by revert c; decide

/-- The own stack, given away but for the own slot. -/
theorem stack_give (f : Buf (Elt F) ((c : Thread nD τ).loc cc0_scratch1)) :
    full c cc0_scratch1 f ⊢ iprop(anySlot c c ∗ bigSepL ks31 fun k => anySlot (F := F) c (c + k)) := by
  iintro H
  ihave H := (Entails.of_eq (stack_split c f)) $$ H
  ihave H := (show (bigSep Finset.univ fun j => pts c (slotM j) f) ⊢ (bigSep Finset.univ fun j => anySlot (F := F) c j) from
    bigSep_mono fun j _ => show pts c (slotM j) f ⊢ anySlot (F := F) c j from by unfold anySlot; iintro H; iexists f; iexact H) $$ H
  ihave H := (Entails.of_eq (bigSep_around c fun j => anySlot (F := F) c j)) $$ H
  ihave H := (Entails.of_eq (bigSepL_cons' 0 ks31 fun k => anySlot (F := F) c (c + k))) $$ H
  icases H with ⟨H0, H⟩
  isplitl [H0]
  · iapply (Entails.of_eq (congrArg (fun j : Fin 32 => anySlot (F := F) c j) (plus_zero c))); iexact H0
  iexact H

/-- The other devices' slots and the own one, by how far around they are. -/
theorem slots_around : iprop(anySlot (F := F) c c ∗ bigSep (Finset.univ.erase c) fun d => anySlot d c)
    = bigSepL (0 :: ks31) fun k => anySlot (F := F) (c + k) c := by
  rw [← bigSep_around c fun d => anySlot (F := F) d c, bigSep_univ_at _ c]

theorem quarterRes_intro (q : Fin 4) (js : List (Fin 32)) :
    iprop((bigSepL js fun j => cred (tallyAt (recvCell c j) () NB)) ∗ (bigSepL js fun j => atPos ER (recvCell c j) 0 ∅ 0)
        ∗ (bigSepL js fun j => ackRes (F := F) c j) ∗ cred (tallyAt (wCell c q) () NW) ∗ atPos ER (wCell c q) 0 ∅ 0)
      ⊢ quarterRes (F := F) c q js := by
  unfold quarterRes readRes
  iintro ⟨H1, H2, H3, H4, H5⟩
  isplitl [H1 H2]
  · iapply (Entails.of_eq (takeRes_zip c js).symm)
    isplitl [H1] <;> iassumption
  isplitl [H3]; · iexact H3
  isplitl [H4] <;> iassumption

/-- What the four quarters leave: the stack, the receive cells past their rounds, the weights at both ends, and their cells past theirs. -/
theorem quarters_back : iprop(quarterGot m ρ c 0 js0 ∗ quarterGot m ρ c 1 js1 ∗ quarterGot m ρ c 2 js2 ∗ quarterGot m ρ c 3 js3)
    ⊢ iprop((∃ f, full (F := F) c cc0_scratch1 f) ∗ (bigSep Finset.univ fun j => atPos ER (recvCell c j) 1 ∅ 0) ∗ full c main_arg1 (wv m ρ c)
        ∗ (∃ f, full (F := F) c cc0_scratch3 f) ∗ bigSep Finset.univ fun q => atPos ER (wCell c q) 1 ∅ 0) := by
  unfold quarterGot readGot
  rw [takeGot_zip, takeGot_zip, takeGot_zip, takeGot_zip]
  iintro ⟨⟨⟨S0, A0⟩, W0, F0, B0⟩, ⟨⟨S1, A1⟩, W1, F1, B1⟩, ⟨⟨S2, A2⟩, W2, F2, B2⟩, ⟨⟨S3, A3⟩, W3, F3, B3⟩⟩
  isplitl [S0 S1 S2 S3]
  · iapply (stack_join c)
    iapply (Entails.of_eq (bigSep_eights fun j => anySlot (F := F) c j).symm)
    isplitl [S0]; · iexact S0
    isplitl [S1]; · iexact S1
    isplitl [S2] <;> iassumption
  isplitl [A0 A1 A2 A3]
  · iapply (Entails.of_eq (bigSep_eights fun j => atPos ER (recvCell c j) 1 ∅ 0).symm)
    isplitl [A0]; · iexact A0
    isplitl [A1]; · iexact A1
    isplitl [A2] <;> iassumption
  isplitl [W0 W1 W2 W3]
  · iapply (Entails.of_eq ((weights_split c (wv m ρ c)).trans ((bigSep_four fun q => wSrc m ρ c q).trans (four_list _))).symm)
    isplitl [W0]; · iexact W0
    isplitl [W1]; · iexact W1
    isplitl [W2] <;> iassumption
  isplitl [F0 F1 F2 F3]
  · iapply (place_join c)
    iapply (Entails.of_eq ((bigSep_four fun q => anyF (F := F) c q).trans (four_list _)).symm)
    isplitl [F0]; · iexact F0
    isplitl [F1]; · iexact F1
    isplitl [F2] <;> iassumption
  iapply (Entails.of_eq ((bigSep_four fun q => atPos ER (wCell c q) 1 ∅ 0).trans (four_list _)).symm)
  isplitl [B0]; · iexact B0
  isplitl [B1]; · iexact B1
  isplitl [B2] <;> iassumption

/-- All the cells, past their rounds, are closed. -/
theorem close : iprop(records m ρ K ∗ bigSep Finset.univ fun k : CK => atPos ER (kcell (c, k)) 1 ∅ 0)
    ⊢ |={Set.univ}=> (bigSep Finset.univ fun k : CK => semVal (kcell (c, k)) 0 : sProp 𝕄) := by
  have h : records m ρ K ⊢ bigSep Finset.univ fun k : CK => (cellInv ER (Rd m ρ) (K (c, k)) (kcell (c, k)) : sProp 𝕄) :=
    (BI.bigSep_of_persistent (Finset.univ : Finset CK) (records m ρ K)).trans (bigSep_mono fun k _ => inv_at m ρ K (c, k))
  refine (sep_mono_left h).trans ?_
  rw [← bigSep_sep']
  exact Rounds.cells_close ER (Rd m ρ) Finset.univ (fun k : CK => kcell (c, k)) (fun k => K (c, k)) (fun _ _ => Set.mem_univ _)
    (fun _ _ h => h) (fun _ => 1) (fun k _ => duties_later m ρ _)

/-- The body, from what the device starts with to what it ends with. -/
theorem runs_steps {Q : PUnit → sProp 𝕄} :
    iprop(ghost m ρ K c ∗ goods m ρ c ∗ owing (F := F) c (O₀ c) ∗ full c cc0_stg0_0 (xstg m ρ c))
      ⊢ iprop(((Φ₁ m ρ c ∗ owing (F := F) c 0 ∗ full c cc0_stg0_0 (xstg m ρ c)) -∗ Q ⟨⟩) -∗ runs c (steps c) Q) := by
  unfold ghost payToks goods creds scratch steps
  iintro ⟨⟨#HR, Hat, HtB, HtV, HtS, HtA, HtW, HtO⟩, ⟨⟨HcB, HcA, HcV⟩, #Hlev, Hw, Ho, Hs0, ⟨%fst, Hs1⟩, Hs2, ⟨%ff, Hs3⟩, Hs4, Hs5⟩, ⟨%W, HO⟩, Hx⟩ Hk
  ihave Hat := (Entails.of_eq (bigSep_cells fun k : CK => atPos ER (kcell (c, k)) 0 ∅ 0)) $$ Hat
  icases Hat with ⟨HaB, HaA, HaO, HaW, HaS, HaV⟩
  -- the handshake
  ihave Hs1 := (stack_give c fst) $$ Hs1
  icases Hs1 with ⟨Hown, Hs1⟩
  iapply (runs_signals m ρ K c ks31 (by decide) _ (oweLate c + oweRecv c (0 :: ks31)) W) $$ [HO HtB Hs1]
  · isplitr; · iexact HR
    isplitl [HO]; · iexact HO
    iapply (Entails.of_eq (sigRes_zip c ks31).symm)
    isplitl [HtB] <;> iassumption
  iintro HO
  iapply (runs_barrier m ρ K c _ _ ((above_late (by decide) c).add (above_recv (by decide) c _)) W) $$ [HcB HO HaB]
  · isplitr; · iexact HR
    isplitr; · iexact Hlev
    isplitl [HcB]; · iexact HcB
    isplitl [HO] <;> iassumption
  iintro ⟨⟨%W', HO⟩, HaB, Hsl⟩
  ihave Hsl := (Entails.of_eq (slots_around (F := F) c)) $$ [Hown Hsl]
  · isplitl [Hown] <;> iassumption
  -- the cast, and the sends
  iapply (runs_cast m ρ c _) $$ [Hx Hs0]
  · isplitl [Hx] <;> iassumption
  iintro ⟨Hx, Hs0⟩
  ihave Hs0 := (Entails.of_eq ((cast_split c (xb m ρ c)).trans (bigSep_around c fun j => rowsPts m ρ c j))) $$ Hs0
  ihave HtS := (Entails.of_eq (bigSep_list fun k => dutyTok ER (sendCell c k) 0 0)) $$ HtS
  ihave HtV := (Entails.of_eq (bigSep_around c fun d => dutyTok ER (recvCell d c) 0 0)) $$ HtV
  iapply (runs_sends m ρ K c (0 :: ks31) _ (oweLate c) W') $$ [HO Hs0 Hsl HtS HtV]
  · isplitr; · iexact HR
    isplitl [HO]; · iexact HO
    iapply (Entails.of_eq (sendRes_zip m ρ c (0 :: ks31)).symm)
    isplitl [Hs0]; · iexact Hs0
    isplitl [Hsl]; · iexact Hsl
    isplitl [HtS] <;> iassumption
  iintro ⟨HO, HcS⟩
  -- the weights on their way
  ihave Hw := (Entails.of_eq ((weights_split c (wv m ρ c)).trans (bigSep_four fun q => wSrc m ρ c q))) $$ Hw
  ihave Hs3 := (Entails.of_eq (place_split c ff)) $$ Hs3
  ihave Hs3 := (show (bigSep Finset.univ fun q => pts c (fQ q) ff) ⊢ (bigSep Finset.univ fun q => anyF (F := F) c q) from
    bigSep_mono fun j _ => show pts c (fQ j) ff ⊢ anyF (F := F) c j from by unfold anyF; iintro H; iexists ff; iexact H) $$ Hs3
  ihave Hs3 := (Entails.of_eq (bigSep_four fun q => anyF (F := F) c q)) $$ Hs3
  ihave HtW := (Entails.of_eq (bigSep_four fun q => dutyTok ER (wCell c q) 0 0)) $$ HtW
  iapply (runs_fetches m ρ K c [0, 1, 2, 3] _) $$ [Hw Hs3 HtW]
  · isplitr; · iexact HR
    iapply (Entails.of_eq (fetchRes_zip m ρ c [0, 1, 2, 3]).symm)
    isplitl [Hw]; · iexact Hw
    isplitl [Hs3] <;> iassumption
  iintro HcW
  -- the quarters
  ihave HcV := (Entails.of_eq (bigSep_eights fun j => cred (tallyAt (recvCell c j) () NB))) $$ HcV
  ihave HaV := (Entails.of_eq (bigSep_eights fun j => atPos ER (recvCell c j) 0 ∅ 0)) $$ HaV
  ihave HtA := (Entails.of_eq (bigSep_eights fun j => ackRes (F := F) c j)) $$ HtA
  ihave HcW := (Entails.of_eq (four_list fun q => cred (tallyAt (wCell c q) () NW))) $$ HcW
  ihave HaW := (Entails.of_eq ((bigSep_four fun q => atPos ER (wCell c q) 0 ∅ 0).trans (four_list _))) $$ HaW
  icases HcV with ⟨HcV0, HcV1, HcV2, HcV3⟩
  icases HaV with ⟨HaV0, HaV1, HaV2, HaV3⟩
  icases HtA with ⟨HtA0, HtA1, HtA2, HtA3⟩
  icases HcW with ⟨HcW0, HcW1, HcW2, HcW3⟩
  icases HaW with ⟨HaW0, HaW1, HaW2, HaW3⟩
  iapply (runs_quarters m ρ K c _) $$ [HO Hs2 Hs4 Hs5 HcV0 HcV1 HcV2 HcV3 HaV0 HaV1 HaV2 HaV3 HtA0 HtA1 HtA2 HtA3 HcW0 HcW1 HcW2 HcW3 HaW0 HaW1 HaW2 HaW3]
  · isplitr; · iexact HR
    isplitr; · iexact Hlev
    isplitl [HO]; · iexists _; iexact HO
    isplitl [Hs2]; · iexact Hs2
    isplitl [Hs4]; · iexact Hs4
    isplitl [Hs5]; · iexact Hs5
    isplitl [HcV0 HaV0 HtA0 HcW0 HaW0]
    · iapply (quarterRes_intro c 0 js0)
      isplitl [HcV0]; · iexact HcV0
      isplitl [HaV0]; · iexact HaV0
      isplitl [HtA0]; · iexact HtA0
      isplitl [HcW0] <;> iassumption
    isplitl [HcV1 HaV1 HtA1 HcW1 HaW1]
    · iapply (quarterRes_intro c 1 js1)
      isplitl [HcV1]; · iexact HcV1
      isplitl [HaV1]; · iexact HaV1
      isplitl [HtA1]; · iexact HtA1
      isplitl [HcW1] <;> iassumption
    isplitl [HcV2 HaV2 HtA2 HcW2 HaW2]
    · iapply (quarterRes_intro c 2 js2)
      isplitl [HcV2]; · iexact HcV2
      isplitl [HaV2]; · iexact HaV2
      isplitl [HtA2]; · iexact HtA2
      isplitl [HcW2] <;> iassumption
    · iapply (quarterRes_intro c 3 js3)
      isplitl [HcV3]; · iexact HcV3
      isplitl [HaV3]; · iexact HaV3
      isplitl [HtA3]; · iexact HtA3
      isplitl [HcW3] <;> iassumption
  iintro ⟨HO, Hs2, Hs4, Hs5, Hq0, Hq1, Hq2, Hq3⟩
  ihave Hq := (quarters_back m ρ c) $$ [Hq0 Hq1 Hq2 Hq3]
  · isplitl [Hq0]; · iexact Hq0
    isplitl [Hq1]; · iexact Hq1
    isplitl [Hq2] <;> iassumption
  icases Hq with ⟨Hs1, HaV, Hw, Hs3, HaW⟩
  -- the result out, and every send and acknowledgement in
  ihave HaS := (Entails.of_eq (bigSep_list fun k => atPos ER (sendCell c k) 0 ∅ 0)) $$ HaS
  iapply (runs_finish m ρ K c) $$ [HO Hs5 Ho HtO HaO HcS HaS HcA HaA]
  · isplitr; · iexact HR
    isplitl [HO]; · iexact HO
    isplitl [Hs5]; · iexact Hs5
    isplitl [Ho]; · iexact Ho
    isplitl [HtO]; · iexact HtO
    isplitl [HaO]; · iexact HaO
    isplitl [HcS HaS]
    · iapply (Entails.of_eq (waitRes_zip c (0 :: ks31)).symm)
      isplitl [HcS] <;> iassumption
    isplitl [HcA] <;> iassumption
  iintro ⟨HO, Hs5, Ho, HaO, Hback, HaA⟩
  ihave Hback := (Entails.of_eq (waitGot_zip m ρ c (0 :: ks31))) $$ Hback
  icases Hback with ⟨Hs0, HaS⟩
  ihave HaS := (Entails.of_eq (bigSep_list fun k => atPos ER (sendCell c k) 1 ∅ 0).symm) $$ HaS
  ihave Hs0 := (Entails.of_eq ((cast_split c (xb m ρ c)).trans (bigSep_around c fun j => rowsPts m ρ c j)).symm) $$ Hs0
  ihave Hat := (Entails.of_eq (bigSep_cells fun k : CK => atPos ER (kcell (c, k)) 1 ∅ 0).symm) $$ [HaB HaA HaO HaW HaS HaV]
  · isplitl [HaB]; · iexact HaB
    isplitl [HaA]; · iexact HaA
    isplitl [HaO]; · iexact HaO
    isplitl [HaW]; · iexact HaW
    isplitl [HaS] <;> iassumption
  imod (close m ρ K c) $$ [Hat] with Hz
  · isplitr; · iexact HR
    iexact Hat
  imodintro
  iapply Hk
  unfold Φ₁ scratch
  isplitr [HO Hx]
  · isplitl [Hw]; · iexact Hw
    isplitl [Ho]; · iexact Ho
    isplitl [Hs0 Hs1 Hs2 Hs3 Hs4 Hs5]
    · isplitl [Hs0]; · iexists _; iexact Hs0
      isplitl [Hs1]; · iexact Hs1
      isplitl [Hs2]; · iexact Hs2
      isplitl [Hs3]; · iexact Hs3
      isplitl [Hs4]; · iexact Hs4
      iexists _; iexact Hs5
    iexact Hz
  isplitl [HO] <;> iassumption

end Body

end Cert.KernelIdeal.Run
-- ==== Proof.Run.Launch.lean ====
/-
# The launch

The ghost state dealt to the devices, the credits of what they owe one another, and the run of the whole machine.
-/
module

public import proofs.«01_k».proof.Proof.Run.Body
public import Idealize.ShloMosaic.Lib.Pipeline.CollectiveSegs

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data and its body -/

/-- What a device's body starts from: its ghost state at some names, and its goods. -/
def Φ₀ (c : Dev nD) : sProp 𝕄 := iprop((∃ K, ghost m ρ K c) ∗ goods m ρ c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetched (t : Fin cfg0.N) : (cfg0.win (0 : Fin 1)).fetch t = true := by rw [fin_N0 t]; rfl

theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ full c b f) := by
  unfold owns; simp only [Memref.view_whole, View.read_whole, View.set_whole]

/-- The body at its one point runs from its state before to its state after. -/
theorem body_ok (c : Dev nD) : BodyObligation (dats (F := F) m ρ 0 c) (defs₀ (F := F)) 𝒱₀ () Set.univ := fun t => by
  rw [fin_N0 t, bigSep_W0, bigSep_W0]
  simp only [owns_stage]
  show iprop(Φ₀ m ρ c ∗ (dats m ρ 0 c).owesAt () t0_0.castSucc
      ∗ (∃ d, ∃ f : Buf (Elt F) ((c : Thread nD τ).loc cc0_stg0_0), ⌜f = (dats m ρ 0 c).before (0 : Fin 1) t0_0 d⌝ ∗ full c cc0_stg0_0 f))
    ⊢ runs c printed (fun _ => iprop(Φ₁ m ρ c ∗ (dats m ρ 0 c).owesAt () t0_0.succ
      ∗ ∃ f : Buf (Elt F) ((c : Thread nD τ).loc cc0_stg0_0), ⌜f = xstg m ρ c⌝ ∗ full c cc0_stg0_0 f))
  rw [printed_eq]
  unfold Φ₀ Dat.owesAt Pipeline.owesWithin
  rw [show (dats m ρ 0 c).owed t0_0.castSucc = O₀ c from rfl, show (dats m ρ 0 c).owed t0_0.succ = 0 from rfl]
  iintro ⟨⟨⟨%K, Hg⟩, Hgd⟩, ⟨%W, %hW, HO⟩, ⟨%d, %f, %hf, Hx⟩⟩
  have hx : f = xstg m ρ c := by rw [hf]; unfold Dat.before; rw [if_pos (fetched t0_0)]; rfl
  subst hx
  unfold runs
  rw [wp_deviceId]
  iapply (runs_steps m ρ K c) $$ [Hg Hgd HO Hx]
  · isplitl [Hg]; · iexact Hg
    isplitl [Hgd]; · iexact Hgd
    isplitl [HO]; · iexists W; iexact HO
    iexact Hx
  iintro ⟨HΦ, ⟨%W', HO⟩, Hx⟩
  isplitl [HΦ]; · iexact HΦ
  isplitl [HO]
  · iexists W'
    isplitr; · ipureintro; exact fun _ _ => Or.inl trivial
    iexact HO
  iexists _
  isplitr; · (ipureintro; rfl)
  iexact Hx

/-! ## The cells and the tokens of the launch -/

/-- A number for every semaphore. -/
def code : SemLoc sig → ℕ
  | .reg s => 1000 + s.val
  | .dma s => s.val

theorem csem_injective : Function.Injective csem := by
  have hb : code (.reg barS : SemLoc sig) = 1000 + barS.val := rfl
  have ha : code (.reg ackS : SemLoc sig) = 1000 + ackS.val := rfl
  have hab : ackS.val ≠ barS.val := fun h => ack_ne_bar (Fin.ext h)
  have ho : code (.dma outS : SemLoc sig) = 69 := outS_val
  have hw : ∀ q, code (.dma (wS q) : SemLoc sig) = 65 + q.val := wS_val
  have hs : ∀ k, code (.dma (sendS k) : SemLoc sig) = 1 + k.val := sendS_val
  have hr : ∀ j, code (.dma (recvS j) : SemLoc sig) = 33 + j.val := recvS_val
  rintro (⟨⟩ | ⟨⟩ | ⟨⟩ | q | k | j) (⟨⟩ | ⟨⟩ | ⟨⟩ | q' | k' | j') h <;> have h := congrArg code h <;> dsimp only [csem, osem] at h <;>
    simp only [hb, ha, ho, hw, hs, hr] at h <;>
    first
    | rfl
    | omega
    | (have e : q = q' := Fin.ext (by omega)); rw [e]
    | (have e : k = k' := Fin.ext (by omega)); rw [e]
    | (have e : j = j' := Fin.ext (by omega)); rw [e]

theorem kcell_injective : Function.Injective kcell := by
  rintro ⟨c, k⟩ ⟨c', k'⟩ h
  have h1 : c = c' := congrArg (fun g : GSem nD τ sig => g.1.1) h
  have h2 : k = k' := csem_injective (congrArg (fun g : GSem nD τ sig => g.2) h)
  rw [h1, h2]

theorem ownSemFacts : Pipeline.OwnSemFacts cfg0.spec osem := by decide

/-- Every cell of every device. -/
def allCells : Finset (GSem nD τ sig) := Finset.univ.map ⟨kcell, kcell_injective⟩
/-- A token for every cell and every duty. -/
def tok (x : (Dev nD × CK) × Dev nD) : GSem nD τ sig × ℕ × Dev nD := (kcell x.1, 0, x.2)
theorem tok_injective : Function.Injective tok := fun x y h =>
  Prod.ext (kcell_injective (congrArg (fun z => z.1) h)) (congrArg (fun z => z.2.2) h)
def allToks : Finset (GSem nD τ sig × ℕ × Dev nD) := Finset.univ.map ⟨tok, tok_injective⟩

def u₀ : UU := (initOf (Pipeline.cells cfgs cellOf_inj) (Pipeline.launchToks cfgs cellOf_inj), initOf allCells allToks)

/-- The tokens of a device's own cells. -/
def toks (c : Dev nD) : sProp 𝕄 := bigSep Finset.univ fun k : CK => bigSep Finset.univ fun d : Dev nD => dutyTok ER (kcell (c, k)) 0 d

/-- What the launch deals device `c`. -/
def G (c : Dev nD) : sProp 𝕄 :=
  iprop((bigSep Finset.univ fun k : CK => roundState ER (Rd m ρ) (kcell (c, k)) 0)
    ∗ (bigSep Finset.univ fun k : CK => atPos ER (kcell (c, k)) 0 ∅ 0) ∗ (bigSep Finset.univ fun k : CK => reached ER (kcell (c, k)) 0) ∗ toks c)
/-- What the handing around makes of it. -/
def G' (c : Dev nD) : sProp 𝕄 := iprop(∃ K, ghost m ρ K c)

theorem allCells_sep (Φ : GSem nD τ sig → sProp 𝕄) :
    bigSep allCells Φ = bigSep Finset.univ fun c : Dev nD => bigSep Finset.univ fun k : CK => Φ (kcell (c, k)) := by
  unfold allCells; rw [bigSep_map, bigSep_univ_prod]; rfl
theorem allToks_sep : bigSep allToks (fun x => (dutyTok ER x.1 x.2.1 x.2.2 : sProp 𝕄)) = bigSep Finset.univ fun c : Dev nD => toks c := by
  unfold allToks; rw [bigSep_map, bigSep_univ_prod, bigSep_univ_prod]; rfl

theorem fund : BI.own (ER (initOf allCells allToks)) ⊢ (|==> bigSep Finset.univ (G m ρ) : sProp 𝕄) := by
  iintro HX
  imod (Rounds.fund ER (Rd m ρ) allCells allToks) $$ HX with ⟨Hst, Hr, Hat, Htok⟩
  imodintro
  ihave Hst := (Entails.of_eq (allCells_sep fun g => roundState ER (Rd m ρ) g 0)) $$ Hst
  ihave Hat := (Entails.of_eq (allCells_sep fun g => atPos ER g 0 ∅ 0)) $$ Hat
  ihave Hr := (Entails.of_eq (allCells_sep fun g => reached ER g 0)) $$ Hr
  ihave Htok := (Entails.of_eq allToks_sep) $$ Htok
  unfold G; simp only [bigSep_sep']
  isplitl [Hst]; · iexact Hst
  isplitl [Hat]; · iexact Hat
  isplitl [Hr] <;> iassumption

theorem unscoped_bar (c : Dev nD) : (unscopedSems0 c : sProp 𝕄) = semVal (barCell c) 0 := by
  unfold unscopedSems0; rw [bigSep_eq_bigSepL_of_eq [SemLoc.reg barS] (by decide) (by decide)]; rfl

/-- A device's counters at zero: its own semaphores' and its barrier's. -/
theorem counters (c : Dev nD) :
    iprop(Pipeline.ownSems0 (Ix := Unit) (Name := ℕ) (U := UU) (Lvl := ℕ) (Val := Elt F) (τ := τ) osem c ∗ unscopedSems0 c)
      = (bigSep Finset.univ fun k : CK => semVal (kcell (c, k)) 0 : sProp 𝕄) := by
  rw [bigSep_univ_sum, bigSep_unit, unscoped_bar]
  exact BI.Entails.antisymm (Laws.sep_comm (PROP := sProp 𝕄)).1 (Laws.sep_comm (PROP := sProp 𝕄)).2

/-- Every cell of a device gets its invariant. -/
theorem alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (kcell (c, k))))
          ∗ (bigSep Finset.univ fun k : CK => atPos ER (kcell (c, k)) 0 ∅ 0) ∗ (bigSep Finset.univ fun k : CK => reached ER (kcell (c, k)) 0) ∗ toks c) := by
  unfold G
  iintro ⟨Hos, Hus, Hst, Hrest⟩
  ihave Hv := (Entails.of_eq (counters (F := F) c)) $$ [Hos Hus]
  · isplitl [Hos] <;> iassumption
  imod (show iprop((bigSep Finset.univ fun k : CK => semVal (kcell (c, k)) 0) ∗ bigSep Finset.univ fun k : CK => roundState ER (Rd m ρ) (kcell (c, k)) 0)
      ⊢ (|={Set.univ}=> bigSep Finset.univ fun k : CK => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv] <;> iassumption

/-! ## Handing the tokens around -/

/-- A family over cells and duties, at one duty. -/
theorem at_duty {I : Type} [Fintype I] (Φ : I → Dev nD → sProp 𝕄) (d : Dev nD) :
    (bigSep Finset.univ fun i => bigSep Finset.univ fun d => Φ i d) ⊢ bigSep Finset.univ fun i => Φ i d :=
  bigSep_mono fun i _ => bigSep_at (Φ i) d

/-- The tokens of all the devices' own cells are those of all the duties the devices pay. -/
theorem toks_around : (bigSep Finset.univ fun c : Dev nD => (toks c : sProp 𝕄)) ⊢ bigSep Finset.univ fun c : Dev nD => payToks c := by
  have hB : (bigSep Finset.univ fun c : Dev nD => bigSep Finset.univ fun d : Dev nD => (dutyTok ER (barCell c) 0 d : sProp 𝕄))
      ⊢ bigSep Finset.univ fun c : Dev nD => bigSepL ks31 fun k => dutyTok ER (barCell (c + k)) 0 c := by
    rw [bigSep_univ_comm]
    refine bigSep_mono fun c _ => ?_
    rw [bigSep_around c, bigSepL_cons']
    exact show iprop((dutyTok ER (barCell (c + 0)) 0 c : sProp 𝕄) ∗ bigSepL ks31 fun k => dutyTok ER (barCell (c + k)) 0 c)
      ⊢ bigSepL ks31 fun k => dutyTok ER (barCell (c + k)) 0 c from by iintro ⟨-, H⟩; iexact H
  have hA : (bigSep Finset.univ fun c : Dev nD => bigSep Finset.univ fun d : Dev nD => (dutyTok ER (ackCell c) 0 d : sProp 𝕄))
      ⊢ bigSep Finset.univ fun c : Dev nD => bigSep Finset.univ fun j => ackRes (F := F) c j := by
    rw [bigSep_univ_comm]
    refine bigSep_mono fun c _ => bigSep_mono fun j _ => ?_
    unfold ackRes; split
    · exact affine
    · exact Entails.refl _
  have hV : (bigSep Finset.univ fun c : Dev nD => bigSep Finset.univ fun j => bigSep Finset.univ fun d : Dev nD => (dutyTok ER (recvCell c j) 0 d : sProp 𝕄))
      ⊢ bigSep Finset.univ fun c : Dev nD => bigSep Finset.univ fun d : Dev nD => dutyTok ER (recvCell d c) 0 0 := by
    refine (bigSep_mono fun c _ => at_duty (fun (j : Fin 32) d => dutyTok ER (recvCell c j) 0 d) 0).trans ?_
    exact Entails.of_eq (bigSep_univ_comm _)
  unfold toks payToks
  rw [bigSep_congr (s := Finset.univ) fun (c : Dev nD) _ => bigSep_cells fun k : CK => bigSep Finset.univ fun d : Dev nD => (dutyTok ER (kcell (c, k)) 0 d : sProp 𝕄)]
  simp only [bigSep_sep']
  iintro ⟨HB, HA, HO, HW, HS, HV⟩
  isplitl [HB]; · iapply hB; iexact HB
  isplitl [HV]; · iapply hV; iexact HV
  isplitl [HS]
  · iapply (show (bigSep Finset.univ fun c : Dev nD => bigSep Finset.univ fun k : Fin 32 => bigSep Finset.univ fun d : Dev nD => (dutyTok ER (sendCell c k) 0 d : sProp 𝕄))
        ⊢ bigSep Finset.univ fun c : Dev nD => bigSep Finset.univ fun k : Fin 32 => dutyTok ER (sendCell c k) 0 0 from
      bigSep_mono fun c _ => at_duty (fun (k : Fin 32) d => dutyTok ER (sendCell c k) 0 d) 0); iexact HS
  isplitl [HA]; · iapply hA; iexact HA
  isplitl [HW]
  · iapply (show (bigSep Finset.univ fun c : Dev nD => bigSep Finset.univ fun q : Fin 4 => bigSep Finset.univ fun d : Dev nD => (dutyTok ER (wCell c q) 0 d : sProp 𝕄))
        ⊢ bigSep Finset.univ fun c : Dev nD => bigSep Finset.univ fun q : Fin 4 => dutyTok ER (wCell c q) 0 0 from
      bigSep_mono fun c _ => at_duty (fun (q : Fin 4) d => dutyTok ER (wCell c q) 0 d) 0); iexact HW
  iapply (at_duty (fun c d => (dutyTok ER (outCell c) 0 d : sProp 𝕄)) 0); iexact HO

theorem with_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem handed :
    (bigSep Finset.univ fun c : Dev nD => iprop((bigSep Finset.univ fun k : CK => iprop(∃ κ : ℕ, cellInv ER (Rd m ρ) κ (kcell (c, k))))
          ∗ (bigSep Finset.univ fun k : CK => atPos ER (kcell (c, k)) 0 ∅ 0) ∗ (bigSep Finset.univ fun k : CK => reached ER (kcell (c, k)) 0) ∗ toks c) : sProp 𝕄)
      ⊢ bigSep Finset.univ (G' m ρ) := by
  rw [bigSep_sep', bigSep_sep', bigSep_sep', ← bigSep_univ_prod (fun ck : Dev nD × CK => iprop(∃ κ : ℕ, cellInv ER (Rd m ρ) κ (kcell ck))),
    ← bigSep_univ_prod (fun ck : Dev nD × CK => (reached ER (kcell ck) 0 : sProp 𝕄))]
  iintro ⟨HI, Hat, #HR, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (toks_around (F := F)) $$ Htok
  iapply (with_records (R := records m ρ K) (Φ := fun c => iprop((bigSep Finset.univ fun k : CK => atPos ER (kcell (c, k)) 0 ∅ 0) ∗ payToks (F := F) c))
    fun c => show _ ⊢ G' m ρ c from by unfold G' ghost; iintro ⟨#H1, H2, H3⟩; iexists K; isplitr; · iexact H1
                                       isplitl [H2] <;> iassumption)
  isplitr
  · unfold records; isplitl; · iexact HI
    iexact HR
  · rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc m ρ c).trans (bigSep_fupd _ _)).trans (BI.fupd_mono (handed m ρ))

/-! ## The credits of the launch -/

theorem sum_at (ks : List (Fin 32)) (f : Fin 32 → CellTallies nD τ sig Unit) (g : GSem nD τ sig) :
    (ks.map f).sum g () = (ks.map fun k => f k g ()).sum := by
  induction ks with
  | nil => rfl
  | cons k ks ih => rw [List.map_cons, List.sum_cons, List.map_cons, List.sum_cons, Pi.add_apply, Finsupp.add_apply, ih]

theorem sum_none (ks : List (Fin 32)) (f : Fin 32 → ℕ) (h : ∀ k, f k = 0) : (ks.map f).sum = 0 := by
  induction ks with
  | nil => rfl
  | cons k ks ih => rw [List.map_cons, List.sum_cons, ih, h]

theorem cell_at (c d : Dev nD) (k k' : CK) (n : ℕ) :
    (tallyAt (kcell (d, k')) () n : CellTallies nD τ sig Unit) (kcell (c, k)) () = if (c, k) = (d, k') then n else 0 := by
  rw [tallyAt_apply]
  by_cases h : (c, k) = (d, k')
  · rw [if_pos h, if_pos ⟨congrArg kcell h, rfl⟩]
  · rw [if_neg h, if_neg fun h' => h (kcell_injective h'.1)]

theorem bar_at (d c : Dev nD) (k : CK) : oweBar d ks31 (kcell (c, k)) () = if k = kBar ∧ d ≠ c then 1 else 0 := by
  unfold oweBar; rw [sum_at]
  by_cases h : k = kBar
  · subst h
    rw [show (fun i : Fin 32 => (tallyAt (barCell (d + i)) () 1 : CellTallies nD τ sig Unit) (kcell (c, kBar)) ()) = fun i => if c = d + i then 1 else 0 from
      funext fun i => (cell_at c (d + i) kBar kBar 1).trans (if_congr ⟨fun h => congrArg Prod.fst h, fun h => congrArg (·, kBar) h⟩ rfl rfl)]
    rw [if_congr (P := kBar = kBar ∧ d ≠ c) (Q := d ≠ c) ⟨fun h => h.2, fun h => ⟨rfl, h⟩⟩ rfl rfl]
    revert c d; decide
  · rw [if_neg fun h' => h h'.1, sum_none]
    intro i; exact (cell_at c (d + i) k kBar 1).trans (if_neg fun h' => h (congrArg Prod.snd h'))

theorem ack_at (d c : Dev nD) (k : CK) : oweLate d (kcell (c, k)) () = if k = kAck ∧ d ≠ c then 1 else 0 := by
  unfold oweLate oweAck
  simp only [Pi.add_apply, Finsupp.add_apply, sum_at, Pi.zero_apply, Finsupp.zero_apply]
  by_cases h : k = kAck
  · subst h
    rw [show (fun j : Fin 32 => (if d = j then (0 : CellTallies nD τ sig Unit) else tallyAt (ackCell j) () 1) (kcell (c, kAck)) ()) = fun j => if d ≠ j ∧ c = j then 1 else 0 from
      funext fun j => by
        by_cases hd : d = j
        · rw [if_pos hd, if_neg fun h => h.1 hd]; rfl
        · rw [if_neg hd]
          exact (cell_at c j kAck kAck 1).trans (if_congr ⟨fun h => ⟨hd, congrArg Prod.fst h⟩, fun h => congrArg (·, kAck) h.2⟩ rfl rfl)]
    rw [if_congr (P := kAck = kAck ∧ d ≠ c) (Q := d ≠ c) ⟨fun h => h.2, fun h => ⟨rfl, h⟩⟩ rfl rfl]
    revert c d; decide
  · have h0 : ∀ j : Fin 32, (if d = j then (0 : CellTallies nD τ sig Unit) else tallyAt (ackCell j) () 1) (kcell (c, k)) () = 0 := fun j => by
      by_cases hd : d = j
      · rw [if_pos hd]; rfl
      · rw [if_neg hd]; exact (cell_at c j k kAck 1).trans (if_neg fun h' => h (congrArg Prod.snd h'))
    rw [if_neg fun h' => h h'.1, sum_none _ _ h0, sum_none _ _ h0, sum_none _ _ h0, sum_none _ _ h0]

theorem recv_at (d c : Dev nD) (k : CK) : oweRecv d (0 :: ks31) (kcell (c, k)) () = if k = kRecv d then NB else 0 := by
  unfold oweRecv; rw [sum_at]
  by_cases h : k = kRecv d
  · subst h
    rw [show (fun i : Fin 32 => (tallyAt (recvCell (d + i) d) () NB : CellTallies nD τ sig Unit) (kcell (c, kRecv d)) ()) = fun i => if c = d + i then NB else 0 from
      funext fun i => (cell_at c (d + i) (kRecv d) (kRecv d) NB).trans (if_congr ⟨fun h => congrArg Prod.fst h, fun h => congrArg (·, kRecv d) h⟩ rfl rfl)]
    rw [if_pos rfl]
    revert c d; decide
  · rw [if_neg h, sum_none]
    intro i; exact (cell_at c (d + i) k (kRecv d) NB).trans (if_neg fun h' => h (congrArg Prod.snd h'))

/-- The units the others owe a cell of device `c`. -/
def due : CK → ℕ
  | .inl _ => 31
  | .inr (.inl _) => 31
  | .inr (.inr (.inr (.inr (.inr _)))) => NB
  | .inr (.inr _) => 0

theorem launch_due (c : Dev nD) (k : CK) :
    tallyOn (kcell (c, k)) (launchCredit (Pipeline.owing O₀) 0 (kcell (c, k))) = (tallyAt (kcell (c, k)) () (due k) : CellTallies nD τ sig Unit) := by
  unfold tallyAt; refine congrArg _ (Finsupp.ext fun u => ?_); cases u
  rw [Pipeline.launchCredit_owing, Finsupp.single_eq_same]
  have h : ∀ d, O₀ d (kcell (c, k)) () = ((if k = kAck ∧ d ≠ c then 1 else 0) + if k = kRecv d then NB else 0) + if k = kBar ∧ d ≠ c then 1 else 0 := fun d => by
    unfold O₀
    rw [Pi.add_apply, Finsupp.add_apply, Pi.add_apply, Finsupp.add_apply, ack_at, recv_at, bar_at]
  rw [Finset.sum_congr rfl fun d _ => h d]
  have hn : ∀ c : Fin 32, (∑ d : Fin 32, if d ≠ c then 1 else 0) = 31 := by decide
  rcases k with ⟨⟩ | ⟨⟩ | ⟨⟩ | q | k | j
  · simp only [kBar, kAck, kRecv, due, reduceCtorEq, false_and, true_and, if_false, zero_add]; exact hn c
  · simp only [kBar, kAck, kRecv, due, reduceCtorEq, Sum.inr.injEq, false_and, true_and, if_false, add_zero]; exact hn c
  · simp only [kBar, kAck, kRecv, due, reduceCtorEq, Sum.inr.injEq, false_and, if_false, add_zero, Finset.sum_const_zero]
  · simp only [kBar, kAck, kRecv, due, reduceCtorEq, Sum.inr.injEq, false_and, if_false, add_zero, Finset.sum_const_zero]
  · simp only [kBar, kAck, kRecv, due, reduceCtorEq, Sum.inr.injEq, false_and, if_false, add_zero, Finset.sum_const_zero]
  · simp only [kBar, kAck, kRecv, due, reduceCtorEq, Sum.inr.injEq, false_and, if_false, add_zero, zero_add]
    rw [Finset.sum_ite_eq, if_pos (Finset.mem_univ _)]

/-- What the launch credits a device with. -/
theorem credits (c : Dev nD) : (Pipeline.launchCred O₀ c : sProp 𝕄) ⊢ creds (F := F) c := by
  unfold Pipeline.launchCred creds
  refine (bigSep_subset (Finset.subset_univ (Finset.univ.map ⟨csem, csem_injective⟩))).trans ?_
  rw [bigSep_map]
  refine (Entails.of_eq (bigSep_congr (s := Finset.univ) fun (k : CK) _ => show _ = cred (tallyAt (kcell (c, k)) () (due k)) from congrArg cred (launch_due c k))).trans ?_
  refine (Entails.of_eq (bigSep_cells _)).trans ?_
  show iprop(cred (tallyAt (barCell c) () 31) ∗ cred (tallyAt (ackCell c) () 31) ∗ cred (tallyAt (outCell c) () 0)
      ∗ (bigSep Finset.univ fun q => cred (tallyAt (wCell c q) () 0)) ∗ (bigSep Finset.univ fun k => cred (tallyAt (sendCell c k) () 0))
      ∗ bigSep Finset.univ fun j => cred (tallyAt (recvCell c j) () NB))
    ⊢ iprop(cred (tallyAt (barCell c) () 31) ∗ cred (tallyAt (ackCell c) () 31) ∗ bigSep Finset.univ fun j => cred (tallyAt (recvCell c j) () NB))
  iintro ⟨H1, H2, -, -, -, H3⟩
  isplitl [H1]; · iexact H1
  isplitl [H2] <;> iassumption

/-! ## Entering and leaving -/

/-- What the launch brings a device before its scratch buffers. -/
def start (c : Dev nD) : sProp 𝕄 :=
  iprop((∃ K, ghost m ρ K c) ∗ creds (F := F) c ∗ levAts L lv ∗ full c main_arg1 (wv m ρ c) ∗ ∃ f, full (F := F) c main_v1 f)
/-- What it leaves with. -/
def leave (c : Dev nD) : sProp 𝕄 := iprop(full c main_arg1 (wv m ρ c) ∗ full c main_v1 (yv m ρ c) ∗ unscopedSems0 c)

theorem enters (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨⟨Hw, Ho⟩, Hlev, Hcr, -, HG⟩
  ihave Hc := (credits (F := F) c) $$ Hcr
  imodintro
  unfold start G'
  isplitl
  · isplitl [HG]; · iexact HG
    isplitl [Hc]; · iexact Hc
    isplitl [Hlev]; · iexact Hlev
    isplitl [Hw]; · iexact Hw
    iexists _; iexact Ho
  · iempintro

theorem goes_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold start Φ₀ goods scratch
  iintro ⟨⟨HG, Hc, Hlev, Hw, Ho⟩, -, Hr⟩
  isplitl [HG]; · iexact HG
  isplitl [Hc]; · iexact Hc
  isplitl [Hlev]; · iexact Hlev
  isplitl [Hw]; · iexact Hw
  isplitl [Ho]; · iexact Ho
  iexact Hr

theorem goes_out (c : Dev nD) :
    (dats m ρ 0 c).Φ (Fin.last cfg0.N) ⊢ iprop(leave m ρ c ∗ Pipeline.ownSems0 osem c ∗ Pipeline.scopedRest cfg0.spec c) := by
  rw [show (dats m ρ 0 c).Φ (Fin.last cfg0.N) = Φ₁ m ρ c from rfl, scopedRest0_eq]
  unfold Φ₁ leave scratch
  iintro ⟨Hw, Ho, Hr, Hz⟩
  ihave Hz := (Entails.of_eq (counters (F := F) c).symm) $$ Hz
  icases Hz with ⟨Hos, Hus⟩
  isplitl [Hw Ho Hus]
  · isplitl [Hw]; · iexact Hw
    isplitl [Ho] <;> iassumption
  isplitl [Hos]; · iexact Hos
  iexact Hr

theorem staging (c : Dev nD) : (levAts L lv : sProp 𝕄) ⊢ Pipeline.cellsWaits cfgs (dats m ρ) () 0 c :=
  Pipeline.cellsWaits_intro cfgs (dats m ρ) () 0 c fun w s t => by
    refine mayWait (n := 0) c _ _ (Nat.le_of_eq (lv_low c _ (by fin_cases w; fin_cases s; decide))) ?_
    rcases t with ⟨_ | _, ht⟩
    · exact above_O₀ c
    · exact Above.zero 0

/-! ## The run -/

/-- The window's array after the run. -/
def finalA (c : Dev nD) (w : Fin cfg0.W) : Buf (Elt F) ((cfg0.win w).arr.view.loc (c : Thread nD τ)) := (dats m ρ 0 c).arrAt w cfg0.N

set_option maxRecDepth 8000 in
/-- From any memory with zero counters, at any float values: every weakly fair execution of the machine ends, with each
    device's arguments as they were, its result the one computed from all the devices' first arguments and its own second,
    and every semaphore at zero. -/
theorem run_main : θ_run defs (onTc (τ := τ) (main (F := F))) (s₀ m ρ) (fun r =>
    (∀ c : Dev nD, (∀ w : Fin cfg0.W, r.2.mem ((cfg0.win w).arr.view.loc (c : Thread nD τ)) = finalA m ρ c w)
      ∧ r.2.mem ((c : Thread nD τ).loc main_arg1) = wv m ρ c ∧ r.2.mem ((c : Thread nD τ).loc main_v1) = yv m ρ c)
    ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_ok m ρ) (hne := fun w => by fin_cases w <;> exact Nat.succ_pos _) (harr := arr_whole0) (hstage := stage_whole0)
    (hshare := fun c w => by unfold Dat.share; split <;> rfl)
    (hdistinct := winFacts0.arr_inj)
    (O₀ := O₀) (howed₀ := fun _ => rfl) (howedN := fun _ => rfl)
    (L := L) (lv := lv) (hL := L_of_ne) (hwaits := staging m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := leave m ρ) (Z := fun _ => iprop(emp))
    (hX := enters m ρ) (hin := goes_in m ρ) (hout := goes_out m ρ)
    (QY := fun c s => (s.mem ((c : Thread nD τ).loc main_arg1) = wv m ρ c ∧ s.mem ((c : Thread nD τ).loc main_v1) = yv m ρ c)
      ∧ ∀ sm : SemLoc sig, sm.isScoped .tc = false → s.sem ((c.tc : Thread nD τ), sm) = 0)
    (hY := fun c s' => by
      unfold leave
      iintro ⟨⟨Hw, Ho, Hu⟩, -, HSI⟩
      icombine HSI Hw gives %hw
      icombine HSI Ho gives %ho
      imod (Pipeline.unscopedSems0_read (X := unscopedSems0 c) (c := c) fupd_intro s') $$ [Hu HSI] with ⟨%hu, HSI⟩
      · isplitl [Hu] <;> iassumption
      imodintro
      isplitr; · ipureintro; exact ⟨⟨Buf.eq_of_forall_mem_univ hw, Buf.eq_of_forall_mem_univ ho⟩, hu⟩
      iexact HSI)
    (hQ := fun _ h hs => ⟨fun c => ⟨(h c).1, (h c).2.2.1⟩, sem_eq_zero hs fun c => (h c).2.2.2⟩)

end Cert.KernelIdeal.Run
-- ==== Proof.Run.Ends.lean ====
/-
# What the run leaves

The kernel's run in the words of the claims: the result in its place, both arguments as they were and every counter at
zero.
-/
module

public import proofs.«01_k».proof.Proof.Run.Launch
public import Idealize.ShloMosaic.Lib.StableHlo.RunHlo

@[expose] public section

noncomputable section

namespace Cert.KernelIdeal.Run

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- Whatever the floats are, the run ends with `yv` in the result on each device, both arguments as they were and every
counter at zero. -/
theorem ends : θ_run defs (onTc (τ := τ) (main (F := F))) ⟨m, fun _ => 0, ρ⟩ fun r =>
    (∀ c : Dev nD, r.2.mem ((c.tc : Thread nD τ).loc main_v1) = yv m ρ c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  θ_run_mono (run_main m ρ) fun _ h =>
    ⟨fun c => ⟨(h.1 c).2.2, ((h.1 c).1 0).trans ((dats m ρ 0 c).arrAt_in 0 rfl _), (h.1 c).2.1⟩, h.2⟩

/-- The part of it that says nothing of the result. -/
theorem frame : θ_run defs (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  θ_run_mono (ends m ρ) fun _ h => ⟨fun c => (h.1 c).2, h.2⟩

end Cert.KernelIdeal.Run
-- ==== Proof.Printed.lean ====
/-
# The kernel as it is printed

The kernel and its idealization are one text, so that what is proved of the idealization whatever the floats are is
proved of the kernel too.
-/
module

public import proofs.«01_k».proof.Proof.Run.Ends
public import proofs.«01_k».proof.Kernel
public import proofs.«01_k».proof.Proof.Gen.Kernel

@[expose] public section

noncomputable section

namespace Cert.Kernel.Run

open Cert.Kernel Cert.Kernel.Gen
open Idealize.ShloMosaic Idealize.ShloMosaic.TcCoe Idealize.SL.Sem

variable {F : FTy → Type} [FloatOps F]

/-- The kernel's body table is the idealization's. -/
theorem defs_same : Cert.Kernel.defs (F := F) = Cert.KernelIdeal.defs (F := F) := by chain_rfl

/-- So is its program. -/
theorem main_same (c : Dev nD) : Cert.Kernel.main (F := F) c = Cert.KernelIdeal.main (F := F) c := rfl

/-- The kernel runs, whatever the floats are: both arguments end as they were and every counter at zero. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  rw [defs_same]
  exact Cert.KernelIdeal.Run.frame m ρ

end Cert.Kernel.Run
-- ==== Proof.Reference.lean ====
/-
# The reference's run

Four operations on one device and no kernel: the product, a zero, the zero spread over the product's shape, and the
larger of the two.
-/
module

public import proofs.«01_k».proof.Proof.Gen.ReferenceIdeal
public import Idealize.ShloMosaic.Lib.StableHlo.RunHlo
public import Idealize.ShloMosaic.Lib.Quiescent

@[expose] public section

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-- The result from the two arguments: their product, or zero where it is negative. -/
def result (x w : FVec F S2048x2048 .f32) : FVec F S2048x2048 .f32 :=
  maximumf (Host.dotGeneral dot_S2048x2048_S2048x2048_S2048x2048_1_0_0_1_n_n none x w)
    (broadcastInDim S2048x2048 ![] Facts₀.bcast_S_S2048x2048 (constant S_ .f32 0x00000000#32))

/-- The operations, in order. -/
abbrev steps : List (HloOp τ sig (Elt F)) :=
  [ binary main_arg0 main_arg1 main_v0 (fun x w => Host.dotGeneral dot_S2048x2048_S2048x2048_S2048x2048_1_0_0_1_n_n none x w),
    nullary main_cst (constant S_ .f32 0x00000000#32),
    unary main_cst main_v1 (broadcastInDim S2048x2048 ![] Facts₀.bcast_S_S2048x2048),
    binary main_v0 main_v1 main_v2 maximumf ]

/-- The run ends with the result in its place, both arguments as they were and every counter at zero. -/
theorem run (m : (ℓ : Loc nD τ sig) → Buf (Elt F) ℓ) (g : Dev nD → PrngReg) :
    θ_run defs (onTc (τ := τ) (main (F := F))) ⟨m, fun _ => 0, g⟩ fun r =>
      (∀ c : Dev nD,
        r.2.mem ((c.tc : Thread nD τ).loc main_v2)
          = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  θ_run_mono (run_seq (by decide) (by decide) defs main (fun _ => steps) (fun _ => rfl)
    (fun _ => ⟨binary_bufs_sub .., nullary_bufs_sub .., unary_bufs_sub .., binary_bufs_sub ..⟩) m g) fun r h =>
    ⟨fun c => ⟨(h c main_v2).trans (by after_results; rfl), (h c main_arg0).trans (by after_results),
        (h c main_arg1).trans (by after_results)⟩,
      sem_eq_zero_of_no_sems (by decide) r.2⟩

end Cert.ReferenceIdeal.Run
-- ==== Proof.Run.Value.lean ====
/-
# What the result is

Over the extended reals a cast changes nothing and the products of the four quarters add up, so that the result on device
`c` is its rows of the product of the whole arrays, or zero where that is negative.
-/
module

public import proofs.«01_k».proof.Proof.Run.Protocol
public import proofs.«01_k».proof.Proof.Reference
public import Idealize.ShloMosaic.Lib.MatmulPlain
public import Idealize.ShloMosaic.Lib.StackMember
public import Idealize.ShloMosaic.Lib.Layout

@[expose] public section

noncomputable section

namespace Cert.KernelIdeal.Run

open Cert.KernelIdeal Cert.KernelIdeal.Gen
open Idealize.ShloMosaic Idealize.ShloMosaic.TcCoe Idealize.ShloMosaic.ValueIdx Idealize.SL.Sem
open scoped BigOperators

/-! ## The quarters of the whole arrays -/

section
variable {F : FTy → Type} [FloatOps F]
variable (m : (ℓ : Loc nD τ sig) → Buf (Elt F) ℓ) (ρ : Dev nD → PrngReg)

/-- The argument is staged whole. -/
theorem xstg_eq (c : Dev nD) : xstg m ρ c = m ((c.tc : Thread nD τ).loc main_arg0) := by
  funext i
  unfold xstg
  show m ((c.tc : Thread nD τ).loc main_arg0) _ = m ((c.tc : Thread nD τ).loc main_arg0) i
  refine congrArg _ (funext fun a => Fin.ext ?_)
  match a with
  | ⟨0, _⟩ => show 0 * 2048 + 1 * (i 0).val = (i 0).val; omega
  | ⟨1, _⟩ => show 0 * 64 + 1 * (i 1).val = (i 1).val; omega

/-- Row `k` of quarter `q` of the weights is row `512 q + k`. -/
theorem wq_apply (c : Dev nD) (q : Fin 4) (k : Fin 512) (n : Fin 2048) :
    wq m ρ c q (ix2 k n)
      = m ((c.tc : Thread nD τ).loc main_arg1) (ix2 (⟨512 * q.val + k.val, by omega⟩ : Fin 2048) n) := by
  show m ((c.tc : Thread nD τ).loc main_arg1) _ = _
  refine congrArg _ (funext fun a => Fin.ext ?_)
  match a with
  | ⟨0, _⟩ => show 512 * q.val + 1 * k.val = 512 * q.val + k.val; omega
  | ⟨1, _⟩ => show 0 + 1 * n.val = n.val; omega

end

variable (m : (ℓ : Loc nD τ sig) → Buf (Elt Ideal) ℓ) (ρ : Dev nD → PrngReg)

/-- Reshaping to the same shape changes nothing. -/
theorem same_shape {α : Type} {s : Shape} (v : s.Idx → α) (h : s.ShapeCasts s) : shapeCast s v h = v :=
  funext fun i => congrArg v (Shape.reshapeEquiv_self h i)

/-- Over the extended reals the cast of a block is the block. -/
theorem xb_eq (c : Dev nD) : xb m ρ c = xstg m ρ c := by
  unfold xb k0_pay1
  simp only [same_shape]
  rfl

variable (X W : FVec Ideal S2048x2048 .f32)

/-- Where the devices hold the whole array's columns, element `(r, k)` of quarter `q` of what device `c` assembles is the
element of the whole array in its row `64 c + r` and its column `512 q + k`. -/
theorem xq_apply (hX : ∀ c : Dev nD, m ((c.tc : Thread nD τ).loc main_arg0) = Layout.block ⟨2, ![2048, 64]⟩ ⟨2, ![2048, 2048]⟩ 1 32 c X)
    (c : Dev nD) (q : Fin 4) (r : Fin 64) (k : Fin 512) :
    xq m ρ c q (ix2 r k)
      = X (ix2 (⟨64 * c.val + r.val, by have : c.val < 32 := c.isLt; omega⟩ : Fin 2048) (⟨512 * q.val + k.val, by omega⟩ : Fin 2048)) := by
  unfold xq blk
  rw [xb_eq, xstg_eq, hX]
  show X _ = X _
  refine congrArg X (funext fun a => Fin.ext ?_)
  match a with
  | ⟨0, _⟩ => show 64 * c.val + 1 * r.val = 64 * c.val + r.val; omega
  | ⟨1, _⟩ => show (512 * q.val + k.val) / 64 * 64 + (0 + 1 * (k.val % 64)) = 512 * q.val + k.val; omega

/-! ## The sums -/

/-- A sum over 2048 places is the sum over four runs of 512, added one after the other. -/
theorem sum_quarters (f : Fin 2048 → EReal) :
    ∑ k : Fin 2048, f k = (((∑ k : Fin 512, f ⟨512 * 0 + k.val, by omega⟩) + ∑ k : Fin 512, f ⟨512 * 1 + k.val, by omega⟩)
      + ∑ k : Fin 512, f ⟨512 * 2 + k.val, by omega⟩) + ∑ k : Fin 512, f ⟨512 * 3 + k.val, by omega⟩ := by
  have h := Fin.sum_univ_add (a := 512 + 512 + 512) (b := 512) f
  rw [h, Fin.sum_univ_add (a := 512 + 512) (b := 512), Fin.sum_univ_add (a := 512) (b := 512)]
  refine congr_arg₂ _ (congr_arg₂ _ (congr_arg₂ _ ?_ ?_) ?_) ?_ <;>
    exact Finset.sum_congr rfl fun k _ => congrArg f (Fin.ext (by simp <;> omega))

/-- The product that each quarter's step takes, at an element. -/
theorem quarter_apply (x : FVec Ideal S64x512 .bf16) (w : FVec Ideal S512x2048 .f32) (r : Fin 64) (n : Fin 2048) :
    matmul (F := Ideal) (φ₁ := .bf16) (φ₂ := .bf16) dot_S64x512_S512x2048_S64x2048_1_0_0_1_n_n none x (truncf .bf16 w bitsLt_bf16_f32)
      (constant S64x2048 .f32 0x00000000#32) (ix2 r n) = ∑ k : Fin 512, x (ix2 r k) * w (ix2 k n) := by
  refine (Ideal.matmul_plain_apply none x w _ r n).trans ?_
  show Ideal.ofBits .f32 0x00000000#32 + _ = _
  rw [Ideal.ofBits_zero_f32, zero_add]

theorem pay10_apply (x : FVec Ideal S64x512 .bf16) (w : FVec Ideal S512x2048 .f32) (r : Fin 64) (n : Fin 2048) :
    (k0_pay10 (F := Ideal) x w (ix2 r n) : EReal) = ∑ k : Fin 512, x (ix2 r k) * w (ix2 k n) := by
  unfold k0_pay10
  simp only [same_shape]
  exact quarter_apply x w r n

theorem pay31_apply (x : FVec Ideal S64x512 .bf16) (w : FVec Ideal S512x2048 .f32) (a : FVec Ideal S64x2048 .f32) (r : Fin 64) (n : Fin 2048) :
    k0_pay31 x w a (ix2 r n) = a (ix2 r n) + ∑ k : Fin 512, x (ix2 r k) * w (ix2 k n) := by
  unfold k0_pay31
  simp only [same_shape]
  exact congrArg (a (ix2 r n) + ·) (quarter_apply x w r n)

theorem pay40_apply (x : FVec Ideal S64x512 .bf16) (w : FVec Ideal S512x2048 .f32) (a : FVec Ideal S64x2048 .f32) (r : Fin 64) (n : Fin 2048) :
    k0_pay40 x w a (ix2 r n) = max (a (ix2 r n) + ∑ k : Fin 512, x (ix2 r k) * w (ix2 k n)) (Ideal.ofBits .f32 0x00000000#32) := by
  unfold k0_pay40
  simp only [same_shape]
  exact congrArg (fun y => max (a (ix2 r n) + y) (Ideal.ofBits .f32 0x00000000#32)) (quarter_apply x w r n)

/-- The reference's result at an element. -/
theorem result_apply (i n : Fin 2048) :
    Cert.ReferenceIdeal.Run.result X W (ix2 i n) = max (∑ k : Fin 2048, X (ix2 i k) * W (ix2 k n)) (Ideal.ofBits .f32 0x00000000#32) :=
  congrArg (fun y => max y (Ideal.ofBits .f32 0x00000000#32)) (StackMember.dotGeneral_plain_apply none X W i n)

/-- Where the devices hold the whole array's columns and each the whole weights, the result on device `c` is its rows of the
reference's. -/
theorem yv_eq (hX : ∀ c : Dev nD, m ((c.tc : Thread nD τ).loc main_arg0) = Layout.block ⟨2, ![2048, 64]⟩ ⟨2, ![2048, 2048]⟩ 1 32 c X)
    (hW : ∀ c : Dev nD, m ((c.tc : Thread nD τ).loc main_arg1) = W) (c : Dev nD) :
    yv m ρ c = Layout.block ⟨2, ![64, 2048]⟩ ⟨2, ![2048, 2048]⟩ 0 32 c (Cert.ReferenceIdeal.Run.result X W) := by
  funext i
  obtain ⟨r, n, rfl⟩ : ∃ (r : Fin 64) (n : Fin 2048), i = ix2 r n := ⟨i 0, i 1, eq_ix2 i⟩
  have hc : c.val < 32 := c.isLt
  have hi : (Layout.block ⟨2, ![64, 2048]⟩ ⟨2, ![2048, 2048]⟩ 0 32 c (Cert.ReferenceIdeal.Run.result X W) : S64x2048.Idx → EReal) (ix2 r n)
      = Cert.ReferenceIdeal.Run.result X W (ix2 (⟨64 * c.val + r.val, by omega⟩ : Fin 2048) n) := by
    refine congrArg (Cert.ReferenceIdeal.Run.result X W) (funext fun a => Fin.ext ?_)
    match a with
    | ⟨0, _⟩ => show c.val * 64 + r.val = 64 * c.val + r.val; omega
    | ⟨1, _⟩ => rfl
  refine Eq.trans ?_ hi.symm
  rw [result_apply, sum_quarters]
  unfold yv acc3 acc2 acc1
  rw [pay40_apply, pay31_apply, pay31_apply, pay10_apply]
  simp only [xq_apply m ρ X hX, wq_apply, hW]
  rfl

end Cert.KernelIdeal.Run
-- ==== Proof.lean ====
/-
# The claims

The kernel and its idealization run to the end and leave both arguments as they were and every counter at zero; so does
the reference; and over the extended reals each device's result is its rows of the reference's.
-/
module

public import proofs.«01_k».proof.Defs
public import proofs.«01_k».proof.Proof.Printed
public import proofs.«01_k».proof.Proof.Reference
public import proofs.«01_k».proof.Proof.Run.Value

@[expose] public section

noncomputable section

namespace Cert.Proof

open Idealize.ShloMosaic Idealize.SL.Sem

/-- Over the extended reals, each device's result is its rows of the reference's result from the whole arrays. -/
theorem algebraic : Cert.algebraic_KernelIdeal_ReferenceIdeal := fun m g m' g' _ h =>
  ⟨_, θ_run_mono (Cert.KernelIdeal.Run.ends m g) fun _ e c =>
      ⟨((e.1 c).1).trans (Cert.KernelIdeal.Run.yv_eq m g _ _ (fun d => (h d).1) (fun d => (h d).2) c), (e.1 c).2⟩,
    θ_run_mono (Cert.ReferenceIdeal.Run.run m' g') fun _ e => e.1 0⟩

/-- Every claim of the certificate. -/
theorem claim : Cert.Claim :=
  ⟨Cert.Kernel.Gen.facts, Cert.KernelIdeal.Gen.facts, Cert.ReferenceIdeal.Gen.facts,
    fun m g _ => Cert.Kernel.Run.frame m g,
    fun m g _ => Cert.KernelIdeal.Run.frame m g,
    fun m g _ => θ_run_mono (Cert.ReferenceIdeal.Run.run m g) fun _ h => ⟨fun c => (h.1 c).2, h.2⟩,
    trivial, algebraic⟩

end Cert.Proof

end
